-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_some_logit [hPre_some_logit : Cert.Pre_some_logit.Facts] (m : (ℓ : Loc Cert.KernelIdeal.nD Cert.KernelIdeal.τ Cert.KernelIdeal.sig) → Buf (Elt Ideal) ℓ) : Prop :=
  ∀ c : Dev Cert.KernelIdeal.nD,
    (Cert.Pre_some_logit.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_some_logit [hPre_some_logit : Cert.Pre_some_logit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_some_logit.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_some_logit [hKernelIdeal : Cert.KernelIdeal.Facts] [hPre_some_logit : Cert.Pre_some_logit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_some_logit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_some_logit [hReferenceIdeal : Cert.ReferenceIdeal.Facts] [hPre_some_logit : Cert.Pre_some_logit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_some_logit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_some_logit [hKernelIdeal : Cert.KernelIdeal.Facts] [hReferenceIdeal : Cert.ReferenceIdeal.Facts] [hPre_some_logit : Cert.Pre_some_logit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_some_logit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_some_logit : Cert.Pre_some_logit.Facts),
    quiescent_Kernel (hKernel := hKernel)
    ∧ quiescent_KernelIdeal (hKernelIdeal := hKernelIdeal)
    ∧ quiescent_KernelIdeal_pre_some_logit (hKernelIdeal := hKernelIdeal) (hPre_some_logit := hPre_some_logit)
    ∧ quiescent_ReferenceIdeal (hReferenceIdeal := hReferenceIdeal)
    ∧ quiescent_ReferenceIdeal_pre_some_logit (hReferenceIdeal := hReferenceIdeal) (hPre_some_logit := hPre_some_logit)
    ∧ preserves_Kernel_KernelIdeal
    ∧ algebraic_KernelIdeal_ReferenceIdeal_pre_some_logit (hKernelIdeal := hKernelIdeal) (hReferenceIdeal := hReferenceIdeal) (hPre_some_logit := hPre_some_logit)
-- ==== Pre_some_logit.lean ====
abbrev S128x100000 : Shape := ⟨2, ![128, 100000]⟩
abbrev S_ : Shape := ⟨0, ![]⟩
abbrev S128 : Shape := ⟨1, ![128]⟩

class Facts : Prop where
  reducesTo_S128x100000_S128_d1 : S128x100000.ReducesTo [1] S128
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S128x100000 .f32) : IVec S_ 1 :=
  let main_cst : FVec F S_ .f32 := constant S_ .f32 0xFF800000#32
  let main_v0 : FVec F S128 .f32 := (fun x v => Host.reduce FloatOps.maximumf x v reducesTo_S128x100000_S128_d1 h_S_) main_arg0 main_cst
  let main_cst_0 : FVec F S_ .f32 := constant S_ .f32 0xFF800000#32
  let main_v1 : FVec F S128 .f32 := broadcastInDim S128 ![] bcast_S_S128 main_cst_0
  let main_v2 : IVec S128 1 := cmpf .ogt main_v0 main_v1
  let main_c : IVec S_ 1 := constantI S_ 1 1#1
  let main_v3 : IVec S_ 1 := (fun x v => Host.reduce IntOp.andi x v reducesTo_S128_S_d0 h_S_) main_v2 main_c
  main_v3
-- ==== Kernel.lean ====
abbrev S128x100000 : Shape := ⟨2, ![128, 100000]⟩
abbrev S128x2048 : Shape := ⟨2, ![128, 2048]⟩
abbrev S128x1 : Shape := ⟨2, ![128, 1]⟩
abbrev S3x128x2048 : Shape := ⟨3, ![3, 128, 2048]⟩
abbrev S3 : Shape := ⟨1, ![3]⟩
abbrev S1 : Shape := ⟨1, ![1]⟩
abbrev S_ : Shape := ⟨0, ![]⟩
abbrev S1x128x2048 : Shape := ⟨3, ![1, 128, 2048]⟩
abbrev S1x128x128 : Shape := ⟨3, ![1, 128, 128]⟩
abbrev S128x128 : Shape := ⟨2, ![128, 128]⟩
abbrev S128 : Shape := ⟨1, ![128]⟩

abbrev nBuf : Space → Nat
  | .hbm => 4
  | .vmem => 5
  | .smem => 0
  | _ => 0

abbrev bufTy : (tb : Table) → Fin (tcTables nBuf tb) → BufTy
  | .hbm, ⟨0, _⟩ => ⟨S128x100000, .f32⟩
  | .hbm, ⟨1, _⟩ => ⟨S128x2048, .f32⟩
  | .hbm, ⟨2, _⟩ => ⟨S128x1, .i32⟩
  | .hbm, ⟨3, _⟩ => ⟨S128, .i32⟩
  | .local _ .vmem, ⟨0, _⟩ => ⟨S128x1, .i32⟩
  | .local _ .vmem, ⟨1, _⟩ => ⟨S3x128x2048, .f32⟩
  | .local _ .vmem, ⟨2, _⟩ => ⟨S128x2048, .i32⟩
  | .local _ .vmem, ⟨3, _⟩ => ⟨S128x2048, .f32⟩
  | .local _ .vmem, ⟨4, _⟩ => ⟨S128x2048, .i32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_15 : BitVec 32 := 0#32
  let c49_i32 : BitVec 32 := 49#32
  let v28 : BitVec 32 := Scalar.addi c0_i32_15 c49_i32
  let c1_i32_16 : BitVec 32 := 1#32
  ⟨c0_i32_15, v28, c1_i32_16⟩
def k0_cond1 (k0_t1 : Fin k0_t1_loop.trips) : BitVec 1 :=
  let c0_i32_15 : BitVec 32 := 0#32
  let c1_i32_16 : BitVec 32 := 1#32
  let arg8 : BitVec 32 := Scf.iv c0_i32_15 c1_i32_16 k0_t1
  let c2_i32 : BitVec 32 := 2#32
  let v47 : BitVec 32 := Scalar.addi arg8 c2_i32
  let c49_i32_28 : BitVec 32 := 49#32
  let v48 : BitVec 1 := Scalar.cmpi .slt v47 c49_i32_28
  let v49 : BitVec 32 := Scalar.extui v48
  let c0_i32_29 : BitVec 32 := 0#32
  let v50 : BitVec 1 := Scalar.cmpi .ne v49 c0_i32_29
  v50

def k0_cond2 (k0_t1 : Fin k0_t1_loop.trips) : BitVec 1 :=
  let c0_i32_15 : BitVec 32 := 0#32
  let c1_i32_16 : BitVec 32 := 1#32
  let arg8 : BitVec 32 := Scf.iv c0_i32_15 c1_i32_16 k0_t1
  let c2_i32_1107 : BitVec 32 := 2#32
  let v3130 : BitVec 32 := Scalar.addi arg8 c2_i32_1107
  let c48_i32 : BitVec 32 := 48#32
  let v3133 : BitVec 1 := Scalar.cmpi .slt v3130 c48_i32
  let v3134 : BitVec 32 := Scalar.extui v3133
  let c0_i32_1110 : BitVec 32 := 0#32
  let v3135 : BitVec 1 := Scalar.cmpi .ne v3134 c0_i32_1110
  v3135

def k0_off1 (k0_t1 : Fin k0_t1_loop.trips) : Fin 1 → Nat :=
  let c0_i32_15 : BitVec 32 := 0#32
  let c1_i32_16 : BitVec 32 := 1#32
  let arg8 : BitVec 32 := Scf.iv c0_i32_15 c1_i32_16 k0_t1
  let c2_i32_1108 : BitVec 32 := 2#32
  let v3131 : BitVec 32 := Scalar.addi arg8 c2_i32_1108
  let c3_i32_1109 : BitVec 32 := 3#32
  let v3132 : BitVec 32 := Scalar.remsi v3131 c3_i32_1109
  ![v3132.toNat]
def k0_off2 (k0_t1 : Fin k0_t1_loop.trips) : Fin 3 → Nat :=
  let c0_i32_15 : BitVec 32 := 0#32
  let c1_i32_16 : BitVec 32 := 1#32
  let arg8 : BitVec 32 := Scf.iv c0_i32_15 c1_i32_16 k0_t1
  let c2_i32_1108 : BitVec 32 := 2#32
  let v3131 : BitVec 32 := Scalar.addi arg8 c2_i32_1108
  let c3_i32_1109 : BitVec 32 := 3#32
  let v3132 : BitVec 32 := Scalar.remsi v3131 c3_i32_1109
  let c0_i32_1114 : BitVec 32 := 0#32
  let c0_i32_1115 : BitVec 32 := 0#32
  ![v3132.toNat, 0, 0]
def k0_off3 (k0_t1 : Fin k0_t1_loop.trips) : Fin 2 → Nat :=
  let c0_i32_1116 : BitVec 32 := 0#32
  let c0_i32_15 : BitVec 32 := 0#32
  let c1_i32_16 : BitVec 32 := 1#32
  let arg8 : BitVec 32 := Scf.iv c0_i32_15 c1_i32_16 k0_t1
  let c2_i32_1107 : BitVec 32 := 2#32
  let v3130 : BitVec 32 := Scalar.addi arg8 c2_i32_1107
  let c2048_i32_1113 : BitVec 32 := 2048#32
  let v3139 : BitVec 32 := Scalar.muli v3130 c2048_i32_1113
  ![0, v3139.toNat]
def k0_cond3 (k0_t1 : Fin k0_t1_loop.trips) : BitVec 1 :=
  let c0_i32_15 : BitVec 32 := 0#32
  let c1_i32_16 : BitVec 32 := 1#32
  let arg8 : BitVec 32 := Scf.iv c0_i32_15 c1_i32_16 k0_t1
  let c2_i32_1107 : BitVec 32 := 2#32
  let v3130 : BitVec 32 := Scalar.addi arg8 c2_i32_1107
  let c48_i32_1111 : BitVec 32 := 48#32
  let v3136 : BitVec 1 := Scalar.cmpi .eq v3130 c48_i32_1111
  let v3137 : BitVec 32 := Scalar.extui v3136
  let c0_i32_1112 : BitVec 32 := 0#32
  let v3138 : BitVec 1 := Scalar.cmpi .ne v3137 c0_i32_1112
  v3138

def k0_off4 (k0_t1 : Fin k0_t1_loop.trips) : Fin 1 → Nat :=
  let c0_i32_15 : BitVec 32 := 0#32
  let c1_i32_16 : BitVec 32 := 1#32
  let arg8 : BitVec 32 := Scf.iv c0_i32_15 c1_i32_16 k0_t1
  let c2_i32_1108 : BitVec 32 := 2#32
  let v3131 : BitVec 32 := Scalar.addi arg8 c2_i32_1108
  let c3_i32_1109 : BitVec 32 := 3#32
  let v3132 : BitVec 32 := Scalar.remsi v3131 c3_i32_1109
  ![v3132.toNat]
def k0_off5 (k0_t1 : Fin k0_t1_loop.trips) : Fin 3 → Nat :=
  let c0_i32_15 : BitVec 32 := 0#32
  let c1_i32_16 : BitVec 32 := 1#32
  let arg8 : BitVec 32 := Scf.iv c0_i32_15 c1_i32_16 k0_t1
  let c2_i32_1108 : BitVec 32 := 2#32
  let v3131 : BitVec 32 := Scalar.addi arg8 c2_i32_1108
  let c3_i32_1109 : BitVec 32 := 3#32
  let v3132 : BitVec 32 := Scalar.remsi v3131 c3_i32_1109
  let c0_i32_1113 : BitVec 32 := 0#32
  let c0_i32_1114 : BitVec 32 := 0#32
  ![v3132.toNat, 0, 0]
def k0_off6 (k0_t1 : Fin k0_t1_loop.trips) : Fin 1 → Nat :=
  let c0_i32_15 : BitVec 32 := 0#32
  let c1_i32_16 : BitVec 32 := 1#32
  let arg8 : BitVec 32 := Scf.iv c0_i32_15 c1_i32_16 k0_t1
  let c3_i32 : BitVec 32 := 3#32
  let v46 : BitVec 32 := Scalar.remsi arg8 c3_i32
  ![v46.toNat]
def k0_off7 (k0_t1 : Fin k0_t1_loop.trips) : Fin 3 → Nat :=
  let c0_i32_15 : BitVec 32 := 0#32
  let c1_i32_16 : BitVec 32 := 1#32
  let arg8 : BitVec 32 := Scf.iv c0_i32_15 c1_i32_16 k0_t1
  let c3_i32 : BitVec 32 := 3#32
  let v46 : BitVec 32 := Scalar.remsi arg8 c3_i32
  let c0_i32_30 : BitVec 32 := 0#32
  let c0_i32_31 : BitVec 32 := 0#32
  ![v46.toNat, 0, 0]
def k0_off8 (k0_t1 : Fin k0_t1_loop.trips) : Fin 3 → Nat :=
  let c0_i32_15 : BitVec 32 := 0#32
  let c1_i32_16 : BitVec 32 := 1#32
  let arg8 : BitVec 32 := Scf.iv c0_i32_15 c1_i32_16 k0_t1
  let c3_i32 : BitVec 32 := 3#32
  let v46 : BitVec 32 := Scalar.remsi arg8 c3_i32
  let v58 : Index := Scalar.indexCast v46
  let c0_35 : Index := 0#32
  let c0_36 : Index := 0#32
  ![v58.toNat, 0, 0]
def k0_off9 (k0_t1 : Fin k0_t1_loop.trips) : Fin 3 → Nat :=
  let c0_i32_15 : BitVec 32 := 0#32
  let c1_i32_16 : BitVec 32 := 1#32
  let arg8 : BitVec 32 := Scf.iv c0_i32_15 c1_i32_16 k0_t1
  let c3_i32 : BitVec 32 := 3#32
  let v46 : BitVec 32 := Scalar.remsi arg8 c3_i32
  let v250 : Index := Scalar.indexCast v46
  let c0_87 : Index := 0#32
  let c128 : Index := 128#32
  ![v250.toNat, 0, 128]
def k0_off10 (k0_t1 : Fin k0_t1_loop.trips) : Fin 3 → Nat :=
  let c0_i32_15 : BitVec 32 := 0#32
  let c1_i32_16 : BitVec 32 := 1#32
  let arg8 : BitVec 32 := Scf.iv c0_i32_15 c1_i32_16 k0_t1
  let c3_i32 : BitVec 32 := 3#32
  let v46 : BitVec 32 := Scalar.remsi arg8 c3_i32
  let v442 : Index := Scalar.indexCast v46
  let c0_155 : Index := 0#32
  let c256 : Index := 256#32
  ![v442.toNat, 0, 256]
def k0_off11 (k0_t1 : Fin k0_t1_loop.trips) : Fin 3 → Nat :=
  let c0_i32_15 : BitVec 32 := 0#32
  let c1_i32_16 : BitVec 32 := 1#32
  let arg8 : BitVec 32 := Scf.iv c0_i32_15 c1_i32_16 k0_t1
  let c3_i32 : BitVec 32 := 3#32
  let v46 : BitVec 32 := Scalar.remsi arg8 c3_i32
  let v634 : Index := Scalar.indexCast v46
  let c0_223 : Index := 0#32
  let c384 : Index := 384#32
  ![v634.toNat, 0, 384]
def k0_off12 (k0_t1 : Fin k0_t1_loop.trips) : Fin 3 → Nat :=
  let c0_i32_15 : BitVec 32 := 0#32
  let c1_i32_16 : BitVec 32 := 1#32
  let arg8 : BitVec 32 := Scf.iv c0_i32_15 c1_i32_16 k0_t1
  let c3_i32 : BitVec 32 := 3#32
  let v46 : BitVec 32 := Scalar.remsi arg8 c3_i32
  let v826 : Index := Scalar.indexCast v46
  let c0_291 : Index := 0#32
  let c512 : Index := 512#32
  ![v826.toNat, 0, 512]
def k0_off13 (k0_t1 : Fin k0_t1_loop.trips) : Fin 3 → Nat :=
  let c0_i32_15 : BitVec 32 := 0#32
  let c1_i32_16 : BitVec 32 := 1#32
  let arg8 : BitVec 32 := Scf.iv c0_i32_15 c1_i32_16 k0_t1
  let c3_i32 : BitVec 32 := 3#32
  let v46 : BitVec 32 := Scalar.remsi arg8 c3_i32
  let v1018 : Index := Scalar.indexCast v46
  let c0_359 : Index := 0#32
  let c640 : Index := 640#32
  ![v1018.toNat, 0, 640]
def k0_off14 (k0_t1 : Fin k0_t1_loop.trips) : Fin 3 → Nat :=
  let c0_i32_15 : BitVec 32 := 0#32
  let c1_i32_16 : BitVec 32 := 1#32
  let arg8 : BitVec 32 := Scf.iv c0_i32_15 c1_i32_16 k0_t1
  let c3_i32 : BitVec 32 := 3#32
  let v46 : BitVec 32 := Scalar.remsi arg8 c3_i32
  let v1210 : Index := Scalar.indexCast v46
  let c0_427 : Index := 0#32
  let c768 : Index := 768#32
  ![v1210.toNat, 0, 768]
def k0_off15 (k0_t1 : Fin k0_t1_loop.trips) : Fin 3 → Nat :=
  let c0_i32_15 : BitVec 32 := 0#32
  let c1_i32_16 : BitVec 32 := 1#32
  let arg8 : BitVec 32 := Scf.iv c0_i32_15 c1_i32_16 k0_t1
  let c3_i32 : BitVec 32 := 3#32
  let v46 : BitVec 32 := Scalar.remsi arg8 c3_i32
  let v1402 : Index := Scalar.indexCast v46
  let c0_495 : Index := 0#32
  let c896 : Index := 896#32
  ![v1402.toNat, 0, 896]
def k0_off16 (k0_t1 : Fin k0_t1_loop.trips) : Fin 3 → Nat :=
  let c0_i32_15 : BitVec 32 := 0#32
  let c1_i32_16 : BitVec 32 := 1#32
  let arg8 : BitVec 32 := Scf.iv c0_i32_15 c1_i32_16 k0_t1
  let c3_i32 : BitVec 32 := 3#32
  let v46 : BitVec 32 := Scalar.remsi arg8 c3_i32
  let v1594 : Index := Scalar.indexCast v46
  let c0_563 : Index := 0#32
  let c1024 : Index := 1024#32
  ![v1594.toNat, 0, 1024]
def k0_off17 (k0_t1 : Fin k0_t1_loop.trips) : Fin 3 → Nat :=
  let c0_i32_15 : BitVec 32 := 0#32
  let c1_i32_16 : BitVec 32 := 1#32
  let arg8 : BitVec 32 := Scf.iv c0_i32_15 c1_i32_16 k0_t1
  let c3_i32 : BitVec 32 := 3#32
  let v46 : BitVec 32 := Scalar.remsi arg8 c3_i32
  let v1786 : Index := Scalar.indexCast v46
  let c0_631 : Index := 0#32
  let c1152 : Index := 1152#32
  ![v1786.toNat, 0, 1152]
def k0_off18 (k0_t1 : Fin k0_t1_loop.trips) : Fin 3 → Nat :=
  let c0_i32_15 : BitVec 32 := 0#32
  let c1_i32_16 : BitVec 32 := 1#32
  let arg8 : BitVec 32 := Scf.iv c0_i32_15 c1_i32_16 k0_t1
  let c3_i32 : BitVec 32 := 3#32
  let v46 : BitVec 32 := Scalar.remsi arg8 c3_i32
  let v1978 : Index := Scalar.indexCast v46
  let c0_699 : Index := 0#32
  let c1280 : Index := 1280#32
  ![v1978.toNat, 0, 1280]
def k0_off19 (k0_t1 : Fin k0_t1_loop.trips) : Fin 3 → Nat :=
  let c0_i32_15 : BitVec 32 := 0#32
  let c1_i32_16 : BitVec 32 := 1#32
  let arg8 : BitVec 32 := Scf.iv c0_i32_15 c1_i32_16 k0_t1
  let c3_i32 : BitVec 32 := 3#32
  let v46 : BitVec 32 := Scalar.remsi arg8 c3_i32
  let v2170 : Index := Scalar.indexCast v46
  let c0_767 : Index := 0#32
  let c1408 : Index := 1408#32
  ![v2170.toNat, 0, 1408]
def k0_off20 (k0_t1 : Fin k0_t1_loop.trips) : Fin 3 → Nat :=
  let c0_i32_15 : BitVec 32 := 0#32
  let c1_i32_16 : BitVec 32 := 1#32
  let arg8 : BitVec 32 := Scf.iv c0_i32_15 c1_i32_16 k0_t1
  let c3_i32 : BitVec 32 := 3#32
  let v46 : BitVec 32 := Scalar.remsi arg8 c3_i32
  let v2362 : Index := Scalar.indexCast v46
  let c0_835 : Index := 0#32
  let c1536 : Index := 1536#32
  ![v2362.toNat, 0, 1536]
def k0_off21 (k0_t1 : Fin k0_t1_loop.trips) : Fin 3 → Nat :=
  let c0_i32_15 : BitVec 32 := 0#32
  let c1_i32_16 : BitVec 32 := 1#32
  let arg8 : BitVec 32 := Scf.iv c0_i32_15 c1_i32_16 k0_t1
  let c3_i32 : BitVec 32 := 3#32
  let v46 : BitVec 32 := Scalar.remsi arg8 c3_i32
  let v2554 : Index := Scalar.indexCast v46
  let c0_903 : Index := 0#32
  let c1664 : Index := 1664#32
  ![v2554.toNat, 0, 1664]
def k0_off22 (k0_t1 : Fin k0_t1_loop.trips) : Fin 3 → Nat :=
  let c0_i32_15 : BitVec 32 := 0#32
  let c1_i32_16 : BitVec 32 := 1#32
  let arg8 : BitVec 32 := Scf.iv c0_i32_15 c1_i32_16 k0_t1
  let c3_i32 : BitVec 32 := 3#32
  let v46 : BitVec 32 := Scalar.remsi arg8 c3_i32
  let v2746 : Index := Scalar.indexCast v46
  let c0_971 : Index := 0#32
  let c1792 : Index := 1792#32
  ![v2746.toNat, 0, 1792]
def k0_off23 (k0_t1 : Fin k0_t1_loop.trips) : Fin 3 → Nat :=
  let c0_i32_15 : BitVec 32 := 0#32
  let c1_i32_16 : BitVec 32 := 1#32
  let arg8 : BitVec 32 := Scf.iv c0_i32_15 c1_i32_16 k0_t1
  let c3_i32 : BitVec 32 := 3#32
  let v46 : BitVec 32 := Scalar.remsi arg8 c3_i32
  let v2938 : Index := Scalar.indexCast v46
  let c0_1039 : Index := 0#32
  let c1920 : Index := 1920#32
  ![v2938.toNat, 0, 1920]
abbrev stage0_0 : Fin 1 → Memref sig .tc .vmem S128x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S128 : Shape := ⟨1, ![128]⟩

abbrev nBuf : Space → Nat
  | .hbm => 275
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S128x100000, .i64⟩
  | 16 => ⟨S128x100000, .i64⟩
  | 17 => ⟨S_, .i64⟩
  | 18 => ⟨S128x100000, .i64⟩
  | 19 => ⟨S128x100000, .i64⟩
  | 20 => ⟨S_, .i64⟩
  | 21 => ⟨S128x100000, .i64⟩
  | 22 => ⟨S128x100000, .i64⟩
  | 23 => ⟨S128x100000, .i64⟩
  | 24 => ⟨S_, .i64⟩
  | 25 => ⟨S128x100000, .i64⟩
  | 26 => ⟨S128x100000, .i64⟩
  | 27 => ⟨S128x100000, .i32⟩
  | 28 => ⟨S128x100000, .i32⟩
  | 29 => ⟨S_, .i32⟩
  | 30 => ⟨S_, .i32⟩
  | 31 => ⟨S_, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S_, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S128x100000, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S_, .i32⟩
  | 50 => ⟨S128x100000, .i32⟩
  | 51 => ⟨S128x100000, .i32⟩
  | 52 => ⟨S128x100000, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S_, .i32⟩
  | 59 => ⟨S128x100000, .i32⟩
  | 60 => ⟨S128x100000, .i32⟩
  | 61 => ⟨S128x100000, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S_, .i32⟩
  | 68 => ⟨S128x100000, .i32⟩
  | 69 => ⟨S128x100000, .i32⟩
  | 70 => ⟨S128x100000, .i32⟩
  | 71 => ⟨S128x100000, .i32⟩
  | 72 => ⟨S128x100000, .i32⟩
  | 73 => ⟨S128x100000, .i32⟩
  | 74 => ⟨S128x100000, .i32⟩
  | 75 => ⟨S128x100000, .i32⟩
  | 76 => ⟨S_, .i32⟩
  | 77 => ⟨S128x100000, .i32⟩
  | 78 => ⟨S128x100000, .i32⟩
  | 79 => ⟨S128x100000, .i32⟩
  | 80 => ⟨S_, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S_, .i32⟩
  | 93 => ⟨S128x100000, .i32⟩
  | 94 => ⟨S128x100000, .i32⟩
  | 95 => ⟨S128x100000, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S_, .i32⟩
  | 102 => ⟨S128x100000, .i32⟩
  | 103 => ⟨S128x100000, .i32⟩
  | 104 => ⟨S128x100000, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S_, .i32⟩
  | 111 => ⟨S128x100000, .i32⟩
  | 112 => ⟨S128x100000, .i32⟩
  | 113 => ⟨S128x100000, .i32⟩
  | 114 => ⟨S128x100000, .i32⟩
  | 115 => ⟨S128x100000, .i32⟩
  | 116 => ⟨S128x100000, .i32⟩
  | 117 => ⟨S128x100000, .i32⟩
  | 118 => ⟨S128x100000, .i32⟩
  | 119 => ⟨S_, .i32⟩
  | 120 => ⟨S128x100000, .i32⟩
  | 121 => ⟨S128x100000, .i32⟩
  | 122 => ⟨S128x100000, .i32⟩
  | 123 => ⟨S_, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_1 (i : Nat) : BufTy := match i % 128 with
  | 0 => ⟨S128x100000, .i32⟩
  | 1 => ⟨S128x100000, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S_, .i32⟩
  | 8 => ⟨S128x100000, .i32⟩
  | 9 => ⟨S128x100000, .i32⟩
  | 10 => ⟨S128x100000, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S_, .i32⟩
  | 17 => ⟨S128x100000, .i32⟩
  | 18 => ⟨S128x100000, .i32⟩
  | 19 => ⟨S128x100000, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S_, .i32⟩
  | 26 => ⟨S128x100000, .i32⟩
  | 27 => ⟨S128x100000, .i32⟩
  | 28 => ⟨S128x100000, .i32⟩
  | 29 => ⟨S128x100000, .i32⟩
  | 30 => ⟨S128x100000, .i32⟩
  | 31 => ⟨S128x100000, .i32⟩
  | 32 => ⟨S128x100000, .i32⟩
  | 33 => ⟨S128x100000, .i32⟩
  | 34 => ⟨S_, .i32⟩
  | 35 => ⟨S128x100000, .i32⟩
  | 36 => ⟨S128x100000, .i32⟩
  | 37 => ⟨S128x100000, .i32⟩
  | 38 => ⟨S_, .i32⟩
  | 39 => ⟨S128x100000, .i32⟩
  | 40 => ⟨S128x100000, .i32⟩
  | 41 => ⟨S_, .i32⟩
  | 42 => ⟨S128x100000, .i32⟩
  | 43 => ⟨S128x100000, .i32⟩
  | 44 => ⟨S128x100000, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S_, .i32⟩
  | 51 => ⟨S128x100000, .i32⟩
  | 52 => ⟨S128x100000, .i32⟩
  | 53 => ⟨S128x100000, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S_, .i32⟩
  | 60 => ⟨S128x100000, .i32⟩
  | 61 => ⟨S128x100000, .i32⟩
  | 62 => ⟨S128x100000, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S_, .i32⟩
  | 69 => ⟨S128x100000, .i32⟩
  | 70 => ⟨S128x100000, .i32⟩
  | 71 => ⟨S128x100000, .i32⟩
  | 72 => ⟨S128x100000, .i32⟩
  | 73 => ⟨S128x100000, .i32⟩
  | 74 => ⟨S128x100000, .i32⟩
  | 75 => ⟨S128x100000, .i32⟩
  | 76 => ⟨S128x100000, .i32⟩
  | 77 => ⟨S_, .i32⟩
  | 78 => ⟨S128x100000, .i32⟩
  | 79 => ⟨S128x100000, .i32⟩
  | 80 => ⟨S128x100000, .i32⟩
  | 81 => ⟨S_, .i32⟩
  | 82 => ⟨S128x100000, .i32⟩
  | 83 => ⟨S128x100000, .i32⟩
  | 84 => ⟨S_, .i32⟩
  | 85 => ⟨S128x100000, .i32⟩
  | 86 => ⟨S128x100000, .i32⟩
  | 87 => ⟨S128x100000, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S_, .i32⟩
  | 94 => ⟨S128x100000, .i32⟩
  | 95 => ⟨S128x100000, .i32⟩
  | 96 => ⟨S128x100000, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S_, .i32⟩
  | 103 => ⟨S128x100000, .i32⟩
  | 104 => ⟨S128x100000, .i32⟩
  | 105 => ⟨S128x100000, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S_, .i32⟩
  | 112 => ⟨S128x100000, .i32⟩
  | 113 => ⟨S128x100000, .i32⟩
  | 114 => ⟨S128x100000, .i32⟩
  | 115 => ⟨S128x100000, .i32⟩
  | 116 => ⟨S128x100000, .i32⟩
  | 117 => ⟨S128x100000, .i32⟩
  | 118 => ⟨S128x100000, .i32⟩
  | 119 => ⟨S128x100000, .i32⟩
  | 120 => ⟨S_, .i32⟩
  | 121 => ⟨S128x100000, .i32⟩
  | 122 => ⟨S128x100000, .i32⟩
  | 123 => ⟨S128x100000, .i32⟩
  | 124 => ⟨S_, .i32⟩
  | 125 => ⟨S128x100000, .i32⟩
  | 126 => ⟨S128x100000, .i32⟩
  | 127 => ⟨S_, .i32⟩
  | _ => ⟨S128x100000, .f32⟩

abbrev hbmTy0_2 (i : Nat) : BufTy := match i % 128 with
  | 0 => ⟨S128x100000, .i32⟩
  | 1 => ⟨S128x100000, .i32⟩
  | 2 => ⟨S128x100000, .f32⟩
  | 3 => ⟨S_, .f32⟩
  | 4 => ⟨S128x100000, .f32⟩
  | 5 => ⟨S128x100000, .f32⟩
  | 6 => ⟨S_, .f32⟩
  | 7 => ⟨S128x100000, .f32⟩
  | 8 => ⟨S128x100000, .f32⟩
  | 9 => ⟨S128x100000, .f32⟩
  | 10 => ⟨S128x100000, .f32⟩
  | 11 => ⟨S128x100000, .f32⟩
  | 12 => ⟨S128x100000, .f32⟩
  | 13 => ⟨S128x100000, .f32⟩
  | 14 => ⟨S128x100000, .i32⟩
  | 15 => ⟨S_, .f32⟩
  | 16 => ⟨S_, .i32⟩
  | 17 => ⟨S128, .f32⟩
  | 18 => ⟨S128, .i32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_2 : Ref sig .tc := ⟨.hbm, 17, rfl⟩
abbrev main_v13 : Ref sig .tc := ⟨.hbm, 18, rfl⟩
abbrev main_v14 : Ref sig .tc := ⟨.hbm, 19, rfl⟩
abbrev main_c_3 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_4 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_c_0 : Ref sig .tc := ⟨.hbm, 37, rfl⟩
abbrev main_call0_v7 : Ref sig .tc := ⟨.hbm, 38, rfl⟩
abbrev main_call0_v8 : Ref sig .tc := ⟨.hbm, 39, rfl⟩
abbrev main_call0_c_1 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_c_2 : Ref sig .tc := ⟨.hbm, 46, rfl⟩
abbrev main_call0_v14 : Ref sig .tc := ⟨.hbm, 47, rfl⟩
abbrev main_call0_v15 : Ref sig .tc := ⟨.hbm, 48, rfl⟩
abbrev main_call0_c_3 : Ref sig .tc := ⟨.hbm, 49, rfl⟩
abbrev main_call0_v16 : Ref sig .tc := ⟨.hbm, 50, rfl⟩
abbrev main_call0_v17 : Ref sig .tc := ⟨.hbm, 51, rfl⟩
abbrev main_call0_v18 : Ref sig .tc := ⟨.hbm, 52, rfl⟩
abbrev main_call0_v19 : Ref sig .tc := ⟨.hbm, 53, rfl⟩
abbrev main_call0_v20 : Ref sig .tc := ⟨.hbm, 54, rfl⟩
abbrev main_call0_c_4 : Ref sig .tc := ⟨.hbm, 55, rfl⟩
abbrev main_call0_v21 : Ref sig .tc := ⟨.hbm, 56, rfl⟩
abbrev main_call0_v22 : Ref sig .tc := ⟨.hbm, 57, rfl⟩
abbrev main_call0_c_5 : Ref sig .tc := ⟨.hbm, 58, rfl⟩
abbrev main_call0_v23 : Ref sig .tc := ⟨.hbm, 59, rfl⟩
abbrev main_call0_v24 : Ref sig .tc := ⟨.hbm, 60, rfl⟩
abbrev main_call0_v25 : Ref sig .tc := ⟨.hbm, 61, rfl⟩
abbrev main_call0_v26 : Ref sig .tc := ⟨.hbm, 62, rfl⟩
abbrev main_call0_v27 : Ref sig .tc := ⟨.hbm, 63, rfl⟩
abbrev main_call0_c_6 : Ref sig .tc := ⟨.hbm, 64, rfl⟩
abbrev main_call0_v28 : Ref sig .tc := ⟨.hbm, 65, rfl⟩
abbrev main_call0_v29 : Ref sig .tc := ⟨.hbm, 66, rfl⟩
abbrev main_call0_c_7 : Ref sig .tc := ⟨.hbm, 67, rfl⟩
abbrev main_call0_v30 : Ref sig .tc := ⟨.hbm, 68, rfl⟩
abbrev main_call0_v31 : Ref sig .tc := ⟨.hbm, 69, rfl⟩
abbrev main_call0_v32 : Ref sig .tc := ⟨.hbm, 70, rfl⟩
abbrev main_call0_v33 : Ref sig .tc := ⟨.hbm, 71, rfl⟩
abbrev main_call0_v34 : Ref sig .tc := ⟨.hbm, 72, rfl⟩
abbrev main_call0_v35 : Ref sig .tc := ⟨.hbm, 73, rfl⟩
abbrev main_call0_v36 : Ref sig .tc := ⟨.hbm, 74, rfl⟩
abbrev main_call0_v37 : Ref sig .tc := ⟨.hbm, 75, rfl⟩
abbrev main_call0_c_8 : Ref sig .tc := ⟨.hbm, 76, rfl⟩
abbrev main_call0_v38 : Ref sig .tc := ⟨.hbm, 77, rfl⟩
abbrev main_call0_v39 : Ref sig .tc := ⟨.hbm, 78, rfl⟩
abbrev main_call0_v40 : Ref sig .tc := ⟨.hbm, 79, rfl⟩
abbrev main_call0_c_9 : Ref sig .tc := ⟨.hbm, 80, rfl⟩
abbrev main_call0_v41 : Ref sig .tc := ⟨.hbm, 81, rfl⟩
abbrev main_call0_v42 : Ref sig .tc := ⟨.hbm, 82, rfl⟩
abbrev main_call0_c_10 : Ref sig .tc := ⟨.hbm, 83, rfl⟩
abbrev main_call0_v43 : Ref sig .tc := ⟨.hbm, 84, rfl⟩
abbrev main_call0_v44 : Ref sig .tc := ⟨.hbm, 85, rfl⟩
abbrev main_call0_v45 : Ref sig .tc := ⟨.hbm, 86, rfl⟩
abbrev main_call0_v46 : Ref sig .tc := ⟨.hbm, 87, rfl⟩
abbrev main_call0_v47 : Ref sig .tc := ⟨.hbm, 88, rfl⟩
abbrev main_call0_c_11 : Ref sig .tc := ⟨.hbm, 89, rfl⟩
abbrev main_call0_v48 : Ref sig .tc := ⟨.hbm, 90, rfl⟩
abbrev main_call0_v49 : Ref sig .tc := ⟨.hbm, 91, rfl⟩
abbrev main_call0_c_12 : Ref sig .tc := ⟨.hbm, 92, rfl⟩
abbrev main_call0_v50 : Ref sig .tc := ⟨.hbm, 93, rfl⟩
abbrev main_call0_v51 : Ref sig .tc := ⟨.hbm, 94, rfl⟩
abbrev main_call0_v52 : Ref sig .tc := ⟨.hbm, 95, rfl⟩
abbrev main_call0_v53 : Ref sig .tc := ⟨.hbm, 96, rfl⟩
abbrev main_call0_v54 : Ref sig .tc := ⟨.hbm, 97, rfl⟩
abbrev main_call0_c_13 : Ref sig .tc := ⟨.hbm, 98, rfl⟩
abbrev main_call0_v55 : Ref sig .tc := ⟨.hbm, 99, rfl⟩
abbrev main_call0_v56 : Ref sig .tc := ⟨.hbm, 100, rfl⟩
abbrev main_call0_c_14 : Ref sig .tc := ⟨.hbm, 101, rfl⟩
abbrev main_call0_v57 : Ref sig .tc := ⟨.hbm, 102, rfl⟩
abbrev main_call0_v58 : Ref sig .tc := ⟨.hbm, 103, rfl⟩
abbrev main_call0_v59 : Ref sig .tc := ⟨.hbm, 104, rfl⟩
abbrev main_call0_v60 : Ref sig .tc := ⟨.hbm, 105, rfl⟩
abbrev main_call0_v61 : Ref sig .tc := ⟨.hbm, 106, rfl⟩
abbrev main_call0_c_15 : Ref sig .tc := ⟨.hbm, 107, rfl⟩
abbrev main_call0_v62 : Ref sig .tc := ⟨.hbm, 108, rfl⟩
abbrev main_call0_v63 : Ref sig .tc := ⟨.hbm, 109, rfl⟩
abbrev main_call0_c_16 : Ref sig .tc := ⟨.hbm, 110, rfl⟩
abbrev main_call0_v64 : Ref sig .tc := ⟨.hbm, 111, rfl⟩
abbrev main_call0_v65 : Ref sig .tc := ⟨.hbm, 112, rfl⟩
abbrev main_call0_v66 : Ref sig .tc := ⟨.hbm, 113, rfl⟩
abbrev main_call0_v67 : Ref sig .tc := ⟨.hbm, 114, rfl⟩
abbrev main_call0_v68 : Ref sig .tc := ⟨.hbm, 115, rfl⟩
abbrev main_call0_v69 : Ref sig .tc := ⟨.hbm, 116, rfl⟩
abbrev main_call0_v70 : Ref sig .tc := ⟨.hbm, 117, rfl⟩
abbrev main_call0_v71 : Ref sig .tc := ⟨.hbm, 118, rfl⟩
abbrev main_call0_c_17 : Ref sig .tc := ⟨.hbm, 119, rfl⟩
abbrev main_call0_v72 : Ref sig .tc := ⟨.hbm, 120, rfl⟩
abbrev main_call0_v73 : Ref sig .tc := ⟨.hbm, 121, rfl⟩
abbrev main_call0_v74 : Ref sig .tc := ⟨.hbm, 122, rfl⟩
abbrev main_call0_c_18 : Ref sig .tc := ⟨.hbm, 123, rfl⟩
abbrev main_call0_v75 : Ref sig .tc := ⟨.hbm, 124, rfl⟩
abbrev main_call0_v76 : Ref sig .tc := ⟨.hbm, 125, rfl⟩
abbrev main_call0_c_19 : Ref sig .tc := ⟨.hbm, 126, rfl⟩
abbrev main_call0_v77 : Ref sig .tc := ⟨.hbm, 127, rfl⟩
abbrev main_call0_v78 : Ref sig .tc := ⟨.hbm, 128, rfl⟩
abbrev main_call0_v79 : Ref sig .tc := ⟨.hbm, 129, rfl⟩
abbrev main_call0_v80 : Ref sig .tc := ⟨.hbm, 130, rfl⟩
abbrev main_call0_v81 : Ref sig .tc := ⟨.hbm, 131, rfl⟩
abbrev main_call0_c_20 : Ref sig .tc := ⟨.hbm, 132, rfl⟩
abbrev main_call0_v82 : Ref sig .tc := ⟨.hbm, 133, rfl⟩
abbrev main_call0_v83 : Ref sig .tc := ⟨.hbm, 134, rfl⟩
abbrev main_call0_c_21 : Ref sig .tc := ⟨.hbm, 135, rfl⟩
abbrev main_call0_v84 : Ref sig .tc := ⟨.hbm, 136, rfl⟩
abbrev main_call0_v85 : Ref sig .tc := ⟨.hbm, 137, rfl⟩
abbrev main_call0_v86 : Ref sig .tc := ⟨.hbm, 138, rfl⟩
abbrev main_call0_v87 : Ref sig .tc := ⟨.hbm, 139, rfl⟩
abbrev main_call0_v88 : Ref sig .tc := ⟨.hbm, 140, rfl⟩
abbrev main_call0_c_22 : Ref sig .tc := ⟨.hbm, 141, rfl⟩
abbrev main_call0_v89 : Ref sig .tc := ⟨.hbm, 142, rfl⟩
abbrev main_call0_v90 : Ref sig .tc := ⟨.hbm, 143, rfl⟩
abbrev main_call0_c_23 : Ref sig .tc := ⟨.hbm, 144, rfl⟩
abbrev main_call0_v91 : Ref sig .tc := ⟨.hbm, 145, rfl⟩
abbrev main_call0_v92 : Ref sig .tc := ⟨.hbm, 146, rfl⟩
abbrev main_call0_v93 : Ref sig .tc := ⟨.hbm, 147, rfl⟩
abbrev main_call0_v94 : Ref sig .tc := ⟨.hbm, 148, rfl⟩
abbrev main_call0_v95 : Ref sig .tc := ⟨.hbm, 149, rfl⟩
abbrev main_call0_c_24 : Ref sig .tc := ⟨.hbm, 150, rfl⟩
abbrev main_call0_v96 : Ref sig .tc := ⟨.hbm, 151, rfl⟩
abbrev main_call0_v97 : Ref sig .tc := ⟨.hbm, 152, rfl⟩
abbrev main_call0_c_25 : Ref sig .tc := ⟨.hbm, 153, rfl⟩
abbrev main_call0_v98 : Ref sig .tc := ⟨.hbm, 154, rfl⟩
abbrev main_call0_v99 : Ref sig .tc := ⟨.hbm, 155, rfl⟩
abbrev main_call0_v100 : Ref sig .tc := ⟨.hbm, 156, rfl⟩
abbrev main_call0_v101 : Ref sig .tc := ⟨.hbm, 157, rfl⟩
abbrev main_call0_v102 : Ref sig .tc := ⟨.hbm, 158, rfl⟩
abbrev main_call0_v103 : Ref sig .tc := ⟨.hbm, 159, rfl⟩
abbrev main_call0_v104 : Ref sig .tc := ⟨.hbm, 160, rfl⟩
abbrev main_call0_v105 : Ref sig .tc := ⟨.hbm, 161, rfl⟩
abbrev main_call0_c_26 : Ref sig .tc := ⟨.hbm, 162, rfl⟩
abbrev main_call0_v106 : Ref sig .tc := ⟨.hbm, 163, rfl⟩
abbrev main_call0_v107 : Ref sig .tc := ⟨.hbm, 164, rfl⟩
abbrev main_call0_v108 : Ref sig .tc := ⟨.hbm, 165, rfl⟩
abbrev main_call0_c_27 : Ref sig .tc := ⟨.hbm, 166, rfl⟩
abbrev main_call0_v109 : Ref sig .tc := ⟨.hbm, 167, rfl⟩
abbrev main_call0_v110 : Ref sig .tc := ⟨.hbm, 168, rfl⟩
abbrev main_call0_c_28 : Ref sig .tc := ⟨.hbm, 169, rfl⟩
abbrev main_call0_v111 : Ref sig .tc := ⟨.hbm, 170, rfl⟩
abbrev main_call0_v112 : Ref sig .tc := ⟨.hbm, 171, rfl⟩
abbrev main_call0_v113 : Ref sig .tc := ⟨.hbm, 172, rfl⟩
abbrev main_call0_v114 : Ref sig .tc := ⟨.hbm, 173, rfl⟩
abbrev main_call0_v115 : Ref sig .tc := ⟨.hbm, 174, rfl⟩
abbrev main_call0_c_29 : Ref sig .tc := ⟨.hbm, 175, rfl⟩
abbrev main_call0_v116 : Ref sig .tc := ⟨.hbm, 176, rfl⟩
abbrev main_call0_v117 : Ref sig .tc := ⟨.hbm, 177, rfl⟩
abbrev main_call0_c_30 : Ref sig .tc := ⟨.hbm, 178, rfl⟩
abbrev main_call0_v118 : Ref sig .tc := ⟨.hbm, 179, rfl⟩
abbrev main_call0_v119 : Ref sig .tc := ⟨.hbm, 180, rfl⟩
abbrev main_call0_v120 : Ref sig .tc := ⟨.hbm, 181, rfl⟩
abbrev main_call0_v121 : Ref sig .tc := ⟨.hbm, 182, rfl⟩
abbrev main_call0_v122 : Ref sig .tc := ⟨.hbm, 183, rfl⟩
abbrev main_call0_c_31 : Ref sig .tc := ⟨.hbm, 184, rfl⟩
abbrev main_call0_v123 : Ref sig .tc := ⟨.hbm, 185, rfl⟩
abbrev main_call0_v124 : Ref sig .tc := ⟨.hbm, 186, rfl⟩
abbrev main_call0_c_32 : Ref sig .tc := ⟨.hbm, 187, rfl⟩
abbrev main_call0_v125 : Ref sig .tc := ⟨.hbm, 188, rfl⟩
abbrev main_call0_v126 : Ref sig .tc := ⟨.hbm, 189, rfl⟩
abbrev main_call0_v127 : Ref sig .tc := ⟨.hbm, 190, rfl⟩
abbrev main_call0_v128 : Ref sig .tc := ⟨.hbm, 191, rfl⟩
abbrev main_call0_v129 : Ref sig .tc := ⟨.hbm, 192, rfl⟩
abbrev main_call0_c_33 : Ref sig .tc := ⟨.hbm, 193, rfl⟩
abbrev main_call0_v130 : Ref sig .tc := ⟨.hbm, 194, rfl⟩
abbrev main_call0_v131 : Ref sig .tc := ⟨.hbm, 195, rfl⟩
abbrev main_call0_c_34 : Ref sig .tc := ⟨.hbm, 196, rfl⟩
abbrev main_call0_v132 : Ref sig .tc := ⟨.hbm, 197, rfl⟩
abbrev main_call0_v133 : Ref sig .tc := ⟨.hbm, 198, rfl⟩
abbrev main_call0_v134 : Ref sig .tc := ⟨.hbm, 199, rfl⟩
abbrev main_call0_v135 : Ref sig .tc := ⟨.hbm, 200, rfl⟩
abbrev main_call0_v136 : Ref sig .tc := ⟨.hbm, 201, rfl⟩
abbrev main_call0_v137 : Ref sig .tc := ⟨.hbm, 202, rfl⟩
abbrev main_call0_v138 : Ref sig .tc := ⟨.hbm, 203, rfl⟩
abbrev main_call0_v139 : Ref sig .tc := ⟨.hbm, 204, rfl⟩
abbrev main_call0_c_35 : Ref sig .tc := ⟨.hbm, 205, rfl⟩
abbrev main_call0_v140 : Ref sig .tc := ⟨.hbm, 206, rfl⟩
abbrev main_call0_v141 : Ref sig .tc := ⟨.hbm, 207, rfl⟩
abbrev main_call0_v142 : Ref sig .tc := ⟨.hbm, 208, rfl⟩
abbrev main_call0_c_36 : Ref sig .tc := ⟨.hbm, 209, rfl⟩
abbrev main_call0_v143 : Ref sig .tc := ⟨.hbm, 210, rfl⟩
abbrev main_call0_v144 : Ref sig .tc := ⟨.hbm, 211, rfl⟩
abbrev main_call0_c_37 : Ref sig .tc := ⟨.hbm, 212, rfl⟩
abbrev main_call0_v145 : Ref sig .tc := ⟨.hbm, 213, rfl⟩
abbrev main_call0_v146 : Ref sig .tc := ⟨.hbm, 214, rfl⟩
abbrev main_call0_v147 : Ref sig .tc := ⟨.hbm, 215, rfl⟩
abbrev main_call0_v148 : Ref sig .tc := ⟨.hbm, 216, rfl⟩
abbrev main_call0_v149 : Ref sig .tc := ⟨.hbm, 217, rfl⟩
abbrev main_call0_c_38 : Ref sig .tc := ⟨.hbm, 218, rfl⟩
abbrev main_call0_v150 : Ref sig .tc := ⟨.hbm, 219, rfl⟩
abbrev main_call0_v151 : Ref sig .tc := ⟨.hbm, 220, rfl⟩
abbrev main_call0_c_39 : Ref sig .tc := ⟨.hbm, 221, rfl⟩
abbrev main_call0_v152 : Ref sig .tc := ⟨.hbm, 222, rfl⟩
abbrev main_call0_v153 : Ref sig .tc := ⟨.hbm, 223, rfl⟩
abbrev main_call0_v154 : Ref sig .tc := ⟨.hbm, 224, rfl⟩
abbrev main_call0_v155 : Ref sig .tc := ⟨.hbm, 225, rfl⟩
abbrev main_call0_v156 : Ref sig .tc := ⟨.hbm, 226, rfl⟩
abbrev main_call0_c_40 : Ref sig .tc := ⟨.hbm, 227, rfl⟩
abbrev main_call0_v157 : Ref sig .tc := ⟨.hbm, 228, rfl⟩
abbrev main_call0_v158 : Ref sig .tc := ⟨.hbm, 229, rfl⟩
abbrev main_call0_c_41 : Ref sig .tc := ⟨.hbm, 230, rfl⟩
abbrev main_call0_v159 : Ref sig .tc := ⟨.hbm, 231, rfl⟩
abbrev main_call0_v160 : Ref sig .tc := ⟨.hbm, 232, rfl⟩
abbrev main_call0_v161 : Ref sig .tc := ⟨.hbm, 233, rfl⟩
abbrev main_call0_v162 : Ref sig .tc := ⟨.hbm, 234, rfl⟩
abbrev main_call0_v163 : Ref sig .tc := ⟨.hbm, 235, rfl⟩
abbrev main_call0_c_42 : Ref sig .tc := ⟨.hbm, 236, rfl⟩
abbrev main_call0_v164 : Ref sig .tc := ⟨.hbm, 237, rfl⟩
abbrev main_call0_v165 : Ref sig .tc := ⟨.hbm, 238, rfl⟩
abbrev main_call0_c_43 : Ref sig .tc := ⟨.hbm, 239, rfl⟩
abbrev main_call0_v166 : Ref sig .tc := ⟨.hbm, 240, rfl⟩
abbrev main_call0_v167 : Ref sig .tc := ⟨.hbm, 241, rfl⟩
abbrev main_call0_v168 : Ref sig .tc := ⟨.hbm, 242, rfl⟩
abbrev main_call0_v169 : Ref sig .tc := ⟨.hbm, 243, rfl⟩
abbrev main_call0_v170 : Ref sig .tc := ⟨.hbm, 244, rfl⟩
abbrev main_v22_0 : Ref sig .tc := ⟨.hbm, 245, rfl⟩
abbrev main_call0_v172 : Ref sig .tc := ⟨.hbm, 246, rfl⟩
abbrev main_call0_v173 : Ref sig .tc := ⟨.hbm, 247, rfl⟩
abbrev main_call0_c_44 : Ref sig .tc := ⟨.hbm, 248, rfl⟩
abbrev main_call0_v174 : Ref sig .tc := ⟨.hbm, 249, rfl⟩
abbrev main_v22_1 : Ref sig .tc := ⟨.hbm, 250, rfl⟩
abbrev main_v23 : Ref sig .tc := ⟨.hbm, 251, rfl⟩
abbrev main_c_5 : Ref sig .tc := ⟨.hbm, 252, rfl⟩
abbrev main_v24 : Ref sig .tc := ⟨.hbm, 253, rfl⟩
abbrev main_v25 : Ref sig .tc := ⟨.hbm, 254, rfl⟩
abbrev main_c_6 : Ref sig .tc := ⟨.hbm, 255, rfl⟩
abbrev main_v26 : Ref sig .tc := ⟨.hbm, 256, rfl⟩
abbrev main_v27 : Ref sig .tc := ⟨.hbm, 257, rfl⟩
abbrev main_v28 : Ref sig .tc := ⟨.hbm, 258, rfl⟩
abbrev main_cst : Ref sig .tc := ⟨.hbm, 259, rfl⟩
abbrev main_v29 : Ref sig .tc := ⟨.hbm, 260, rfl⟩
abbrev main_v30 : Ref sig .tc := ⟨.hbm, 261, rfl⟩
abbrev main_cst_7 : Ref sig .tc := ⟨.hbm, 262, rfl⟩
abbrev main_v31 : Ref sig .tc := ⟨.hbm, 263, rfl⟩
abbrev main_v32 : Ref sig .tc := ⟨.hbm, 264, rfl⟩
abbrev main_v33 : Ref sig .tc := ⟨.hbm, 265, rfl⟩
abbrev main_v34 : Ref sig .tc := ⟨.hbm, 266, rfl⟩
abbrev main_v35 : Ref sig .tc := ⟨.hbm, 267, rfl⟩
abbrev main_v36 : Ref sig .tc := ⟨.hbm, 268, rfl⟩
abbrev main_v37 : Ref sig .tc := ⟨.hbm, 269, rfl⟩
abbrev main_call1_v0 : Ref sig .tc := ⟨.hbm, 270, rfl⟩
abbrev main_call1_cst : Ref sig .tc := ⟨.hbm, 271, rfl⟩
abbrev main_call1_c : Ref sig .tc := ⟨.hbm, 272, rfl⟩
abbrev main_call1_v1_0 : Ref sig .tc := ⟨.hbm, 273, rfl⟩
abbrev main_v38 : Ref sig .tc := ⟨.hbm, 274, rfl⟩

abbrev nD : Nat := 1
abbrev τ : Topo := Topo.v7x

variable {F : FTy → Type} [FloatOps F]
-- ==== Proof.Transfer.lean ====
/- The two printed kernels, the one read at the machine's floats and the one read at the extended
   reals, are the same program at every reading of floats, since no operation was rewritten.  So a
   run of the second is a run of the first. -/
module

public import proofs.«01_k».proof.Proof.Gen.Kernel
public import proofs.«01_k».proof.Proof.Gen.KernelIdeal
public import proofs.«01_k».proof.Proof.Gen.Kernel.Launch
public import proofs.«01_k».proof.Proof.Gen.KernelIdeal.Launch
public import proofs.«01_k».proof.Defs

@[expose] public section
noncomputable section

namespace Cert.Proof.Transfer

open Idealize.ShloMosaic Idealize.SL.Sem
variable {F : FTy → Type} [FloatOps F]

set_option maxRecDepth 65536

/-- The kernel bodies are the same function. -/
theorem body_same : Cert.Kernel.cc0__body (F := F) = Cert.KernelIdeal.cc0__body (F := F) := rfl

/-- The host programs are the same. -/
theorem main_same : Cert.Kernel.main (F := F) = Cert.KernelIdeal.main (F := F) := rfl

/-- The kernel functions' table is the same. -/
theorem defs₀_same : Cert.Kernel.defs₀ (F := F) = Cert.KernelIdeal.defs₀ (F := F) := by
  unfold Cert.Kernel.defs₀ Cert.KernelIdeal.defs₀
  apply congrArg
  funext a b
  match a, b with
  | 0, (t, s) => exact (congrFun (congrFun (congrFun (congrFun (congrFun (congrFun (congrFun (congrFun (congrFun (congrFun (congrFun (congrFun (congrFun (congrFun (congrFun body_same _) _) _) _) _) _) _) _) _) _) _) _) _) _) _)

/-- So is the table with the pipeline around it. -/
theorem defs_same : Cert.Kernel.defs (F := F) = Cert.KernelIdeal.defs (F := F) := by
  unfold Cert.Kernel.defs Cert.KernelIdeal.defs
  exact congrArg (fun d => Pipeline.defs Cert.KernelIdeal.pcfgs d) defs₀_same

/-- A run of the one is a run of the other. -/
theorem run_same (s : MemSt Cert.Kernel.nD Cert.Kernel.τ Cert.Kernel.sig (Elt F)) (P)
    (h : θ_run (Cert.KernelIdeal.defs (F := F)) (onTc (τ := Cert.KernelIdeal.τ) (Cert.KernelIdeal.main (F := F))) s P) :
    θ_run (Cert.Kernel.defs (F := F)) (onTc (τ := Cert.Kernel.τ) (Cert.Kernel.main (F := F))) s P := by
  rw [defs_same, main_same]
  exact h

end Cert.Proof.Transfer

end
-- ==== Proof.Strip.lean ====
/-
  The trip of the kernel's loop, said strip by strip.

  A trip of the loop starts one copy into the ring, waits for the copy of its own block, and then treats the block of
  2048 columns as sixteen strips of 128 columns, each in the same way: read the strip of logits and of flat indices,
  hash the indices, make the noise, and keep the larger of the noisy logit and the running maximum together with its
  index. The printed program has the sixteen strips one after the other, cut every sixty statements. Here the strip is
  written once, at a strip number, and the printed trip is proved to be the head and the sixteen strips.
-/
module

public import proofs.«01_k».proof.Proof.Gen.KernelIdeal.Skeleton

@[expose] public section

noncomputable section

namespace Cert.Proof.Strip

open Cert.KernelIdeal Cert.KernelIdeal.Gen
open Idealize.ShloMosaic Idealize.SL.Sem

variable {F : FTy → Type} [FloatOps F]

/-! ## The values of a strip -/

/-- Every lane's word rotated left by `a` (and `b = 32 - a` the other way). -/
def rotV (x : IVec S128x128 32) (a b : BitVec 32) : IVec S128x128 32 :=
  ori (shli x (broadcast S128x128 a)) (shrui x (broadcast S128x128 b))

/-- The twenty rounds of the hash and its five key injections, on every lane: the two words of the counter are the
    zero word and `f`, which already carries the key word 42; the two result words are combined at the end. -/
def hashV (f : IVec S128x128 32) : IVec S128x128 32 :=
  have x1 := xori (rotV f 13#32 19#32) f
  have x0 := addi f x1
  have x1 := xori (rotV x1 15#32 17#32) x0
  have x0 := addi x0 x1
  have x1 := xori (rotV x1 26#32 6#32) x0
  have x0 := addi x0 x1
  have x1 := xori (rotV x1 6#32 26#32) x0
  have x0 := addi x0 (broadcast S128x128 42#32)
  have x1 := addi x1 (broadcast S128x128 466689009#32)
  have x0 := addi x0 x1
  have x1 := xori (rotV x1 17#32 15#32) x0
  have x0 := addi x0 x1
  have x1 := xori (rotV x1 29#32 3#32) x0
  have x0 := addi x0 x1
  have x1 := xori (rotV x1 16#32 16#32) x0
  have x0 := addi x0 x1
  have x1 := xori (rotV x1 24#32 8#32) x0
  have x0 := addi x0 (broadcast S128x128 466689008#32)
  have x1 := addi x1 (broadcast S128x128 2#32)
  have x0 := addi x0 x1
  have x1 := xori (rotV x1 13#32 19#32) x0
  have x0 := addi x0 x1
  have x1 := xori (rotV x1 15#32 17#32) x0
  have x0 := addi x0 x1
  have x1 := xori (rotV x1 26#32 6#32) x0
  have x0 := addi x0 x1
  have x1 := xori (rotV x1 6#32 26#32) x0
  have x0 := addi x0 (broadcast S128x128 0#32)
  have x1 := addi x1 (broadcast S128x128 45#32)
  have x0 := addi x0 x1
  have x1 := xori (rotV x1 17#32 15#32) x0
  have x0 := addi x0 x1
  have x1 := xori (rotV x1 29#32 3#32) x0
  have x0 := addi x0 x1
  have x1 := xori (rotV x1 16#32 16#32) x0
  have x0 := addi x0 x1
  have x1 := xori (rotV x1 24#32 8#32) x0
  have x0 := addi x0 (broadcast S128x128 42#32)
  have x1 := addi x1 (broadcast S128x128 466689012#32)
  have x0 := addi x0 x1
  have x1 := xori (rotV x1 13#32 19#32) x0
  have x0 := addi x0 x1
  have x1 := xori (rotV x1 15#32 17#32) x0
  have x0 := addi x0 x1
  have x1 := xori (rotV x1 26#32 6#32) x0
  have x0 := addi x0 x1
  have x1 := xori (rotV x1 6#32 26#32) x0
  have x0 := addi x0 (broadcast S128x128 466689008#32)
  have x1 := addi x1 (broadcast S128x128 5#32)
  xori x0 x1

/-- The noisy logits of a strip: `x - log (0 - log (max (float of the hashed word, tiny)))`. -/
def noisyV (x : FVec F S128x128 .f32) (f : IVec S128x128 32) : FVec F S128x128 .f32 :=
  subf x (log (subf (broadcast S128x128 (Scalar.ofBits .f32 0x00000000#32))
    (log (maximumf (subf (bitcastToFloat .f32 (ori (shrui (hashV f) (broadcast S128x128 9#32)) (broadcast S128x128 1065353216#32)))
      (broadcast S128x128 (Scalar.ofBits .f32 0x3F800000#32))) (broadcast S128x128 (Scalar.ofBits .f32 0x00800000#32))))))

/-! ## The strip's program -/

/-- The first flat column of trip `k`'s block: `min (2048 k, 97952)`. -/
def baseW (k : Fin k0_t1_loop.trips) : BitVec 32 :=
  Scalar.minsi (Scalar.muli (Scf.iv 0#32 1#32 k) 2048#32) 97952#32

/-- Where strip `s` of trip `k`'s slot of the ring begins. -/
def slotStrip (k : Fin k0_t1_loop.trips) (s : Fin 16) : Fin 3 → Nat := ![k0_off8 k 0, 0, 128 * s.val]
/-- Where strip `s` of a block begins. -/
def strip (s : Fin 16) : Fin 2 → Nat := ![0, 128 * s.val]

theorem slotStrip_inb (k : Fin k0_t1_loop.trips) (s : Fin 16) : ∀ a, slotStrip k s a + S1x128x128.size a ≤ S3x128x2048.size a := by
  have h : k0_off8 k 0 = k.val % 3 := by rw [k0_off8_eq]; rfl
  have := s.isLt
  intro a; unfold slotStrip; fin_cases a
  · show k0_off8 k 0 + 1 ≤ 3; omega
  · show 0 + 128 ≤ 128; omega
  · show 128 * s.val + 128 ≤ 2048; omega
theorem strip_inb (s : Fin 16) : ∀ a, strip s a + S128x128.size a ≤ S128x2048.size a := by
  have := s.isLt
  intro a; unfold strip; fin_cases a
  · show 0 + 128 ≤ 128; omega
  · show 128 * s.val + 128 ≤ 2048; omega

section Progs
variable (arg0 : Memref sig .tc .hbm S128x100000 .f32) (harg0 : arg0.IsWhole)
  (arg1 : Memref sig .tc .hbm S128x2048 .f32) (harg1 : arg1.IsWhole)
  (arg2 : Memref sig .tc .vmem S128x1 .i32) (harg2 : arg2.IsWhole)
  (arg3 : Memref sig .tc .vmem S3x128x2048 .f32) (harg3 : arg3.IsWhole)
  (arg4 : Memref sig .tc .vmem S128x2048 .i32) (harg4 : arg4.IsWhole)
  (arg5 : Memref sig .tc .vmem S128x2048 .f32) (harg5 : arg5.IsWhole)
  (arg6 : Memref sig .tc .vmem S128x2048 .i32) (harg6 : arg6.IsWhole)
  (arg7 : DmaSems sig S3)

/-- Strip `s` of trip `k`. -/
def stripProg (k : Fin k0_t1_loop.trips) (s : Fin 16) : Prog (TpuEff nD τ sig (Elt F) Λ₀ .tc) Unit := do
  let x : Vec F S1x128x128 .f32 ← Prog.lift (.load arg3 (Rect.unit (s := S3x128x2048) (slotStrip k s) S1x128x128.size (slotStrip_inb k s)).toLoadRect (View.loadsAt_vmem h_S1x128x128))
  let f : Vec F S128x128 .i32 ← Prog.lift (.load arg4 (Rect.unit (s := S128x2048) (strip s) S128x128.size (strip_inb s)).toLoadRect (View.loadsAt_vmem h_S128x128))
  have f42 : IVec S128x128 32 := addi f (broadcast S128x128 (baseW k))
  have v : FVec F S128x128 .f32 := noisyV (shapeCast S128x128 x shapeCasts_S1x128x128_S128x128) f42
  let r : Vec F S128x128 .f32 ← Prog.lift (.load arg5 (Rect.unit (s := S128x2048) (strip s) S128x128.size (strip_inb s)).toLoadRect (View.loadsAt_vmem h_S128x128))
  have better : IVec S128x128 1 := cmpf .ogt v r
  let r' : Vec F S128x128 .f32 ← Prog.lift (.load arg5 (Rect.unit (s := S128x2048) (strip s) S128x128.size (strip_inb s)).toLoadRect (View.loadsAt_vmem h_S128x128))
  let _ : Vec F S128x128 .f32 ← Prog.lift (.load arg5 (Rect.unit (s := S128x2048) (strip s) S128x128.size (strip_inb s)).toLoadRect (View.loadsAt_vmem h_S128x128))
  Prog.lift (.store arg5 (Rect.unit (s := S128x2048) (strip s) S128x128.size (strip_inb s)) (shapeCast S128x128 (select better v r') shapeCasts_S128x128_S128x128) Finset.univ (View.stores_vmem_bits_univ h_S128x128 rfl) (.inl rfl))
  let i : Vec F S128x128 .i32 ← Prog.lift (.load arg6 (Rect.unit (s := S128x2048) (strip s) S128x128.size (strip_inb s)).toLoadRect (View.loadsAt_vmem h_S128x128))
  let _ : Vec F S128x128 .i32 ← Prog.lift (.load arg6 (Rect.unit (s := S128x2048) (strip s) S128x128.size (strip_inb s)).toLoadRect (View.loadsAt_vmem h_S128x128))
  Prog.lift (.store arg6 (Rect.unit (s := S128x2048) (strip s) S128x128.size (strip_inb s)) (shapeCast S128x128 (select better f42 i) shapeCasts_S128x128_S128x128) Finset.univ (View.stores_vmem_bits_univ h_S128x128 rfl) (.inl rfl))

/-- The strips of a list, in order. -/
def stripsProg (k : Fin k0_t1_loop.trips) : List (Fin 16) → Prog (TpuEff nD τ sig (Elt F) Λ₀ .tc) Unit
  | [] => pure ⟨⟩
  | s :: l => do
    stripProg arg3 arg4 arg5 arg6 k s
    stripsProg k l

/-- The head of trip `k`: the copy of the block two trips on is started, if there is one (the last block from the
    array of the last columns), and the copy of this trip's block is waited for. -/
def headProg (k0_t1 : Fin k0_t1_loop.trips) : Prog (TpuEff nD τ sig (Elt F) Λ₀ .tc) Unit := do
  if k0_h1 : k0_cond1 k0_t1 = 1#1 then do
    if k0_h2 : k0_cond2 k0_t1 = 1#1 then do
      Prog.lift (.enqueueDma (arg0.slice (Rect.unit (s := S128x100000) (k0_off3 k0_t1) S128x2048.size (k0_off3_inb k0_t1 k0_h1 k0_h2)) (fun _ => rfl))
        (.here ((arg3.slice (Rect.unit (s := S3x128x2048) (k0_off2 k0_t1) S1x128x2048.size (k0_off2_inb k0_t1 k0_h1 k0_h2)) (fun _ => rfl)).squeeze S128x2048 squeezes_S1x128x2048_S128x2048))
        (.dma ((arg7.slice (Rect.unit (s := S3) (k0_off1 k0_t1) S1.size (k0_off1_inb k0_t1 k0_h1 k0_h2))).squeeze S_ squeezes_S1_S_).sem)
        (View.wordExact_bits rfl) ((View.wordExact_bits rfl).reshape _ _) ⟨Or.inl rfl, trivial⟩)
      pure ⟨⟩
    else do
      pure ⟨⟩
    if k0_h3 : k0_cond3 k0_t1 = 1#1 then do
      Prog.lift (.enqueueDma arg1
        (.here ((arg3.slice (Rect.unit (s := S3x128x2048) (k0_off5 k0_t1) S1x128x2048.size (k0_off5_inb k0_t1 k0_h1 k0_h3)) (fun _ => rfl)).squeeze S128x2048 squeezes_S1x128x2048_S128x2048))
        (.dma ((arg7.slice (Rect.unit (s := S3) (k0_off4 k0_t1) S1.size (k0_off4_inb k0_t1 k0_h1 k0_h3))).squeeze S_ squeezes_S1_S_).sem)
        harg1.wordExact ((View.wordExact_bits rfl).reshape _ _) ⟨Or.inl rfl, trivial⟩)
      pure ⟨⟩
    else do
      pure ⟨⟩
    pure ⟨⟩
  else do
    pure ⟨⟩
  Prog.lift (.waitDma2 ((arg7.slice (Rect.unit (s := S3) (k0_off6 k0_t1) S1.size (k0_off6_inb k0_t1))).squeeze S_ squeezes_S1_S_).sem
    (arg0.slice (Rect.unit (s := S128x100000) ![0, 0] S128x2048.size inb_S128x100000_S128x2048_0_0) (fun _ => rfl))
    ((arg3.slice (Rect.unit (s := S3x128x2048) (k0_off7 k0_t1) S1x128x2048.size (k0_off7_inb k0_t1)) (fun _ => rfl)).squeeze S128x2048 squeezes_S1x128x2048_S128x2048)
    (View.wordExact_bits rfl) ((View.wordExact_bits rfl).reshape _ _))

end Progs

end Cert.Proof.Strip

end
-- ==== Proof.Trip.lean ====
/-
  One strip of one trip, run.
-/
module

public import proofs.«01_k».proof.Proof.Strip
public import proofs.«01_k».proof.Proof.Gen.KernelIdeal.Loops
public import Idealize.ShloMosaic.Lib.Ring
public import Idealize.ShloMosaic.Lib.Affine
public import Idealize.ShloMosaic.Lib.Tactic

@[expose] public section

set_option maxRecDepth 16384

noncomputable section

namespace Cert.Proof.Trip

open Cert.KernelIdeal Cert.KernelIdeal.Gen Cert.Proof.Strip
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters
local notation "𝕄" => MT nD τ sig Unit (Elt F) ℕ (UU nD τ) ℕ
abbrev 𝒱₀ : Variants := Variants.none

omit [FloatOps F] in
theorem entails_of_eq {P Q : sProp 𝕄} (e : P = Q) : P ⊢ Q := e ▸ .rfl

/-! ## The memrefs -/

/-- The logits, -/
abbrev aM : Memref sig .tc .hbm S128x100000 .f32 := Memref.whole main_arg0
/-- their last 2048 columns, -/
abbrev tM : Memref sig .tc .hbm S128x2048 .f32 := Memref.whole main_v0
/-- the ring of three blocks, -/
abbrev ringM : Memref sig .tc .vmem S3x128x2048 .f32 := Memref.whole cc0_scratch0
/-- the flat index of each element of a block, -/
abbrev flatM : Memref sig .tc .vmem S128x2048 .i32 := Memref.whole cc0_scratch1
/-- the running maximum -/
abbrev maxM : Memref sig .tc .vmem S128x2048 .f32 := Memref.whole cc0_scratch2
/-- and the running index. -/
abbrev idxM : Memref sig .tc .vmem S128x2048 .i32 := Memref.whole cc0_scratch3

abbrev slotOff (s : Fin 3) : Fin 3 → Nat := ![s.val, 0, 0]
theorem slotOff_inb (s : Fin 3) : ∀ a, slotOff s a + S1x128x2048.size a ≤ S3x128x2048.size a := by
  have := s.isLt; intro a; fin_cases a
  · show s.val + 1 ≤ 3; omega
  · show 0 + 128 ≤ 128; omega
  · show 0 + 2048 ≤ 2048; omega
abbrev semOff (s : Fin 3) : Fin 1 → Nat := ![s.val]
theorem semOff_inb (s : Fin 3) : ∀ a, semOff s a + S1.size a ≤ S3.size a := by
  have := s.isLt; intro a; fin_cases a; show s.val + 1 ≤ 3; omega

/-- Slot `s` of the ring. -/
def rslot (s : Fin 3) : Memref sig .tc .vmem S128x2048 .f32 :=
  (ringM.slice (Rect.unit (s := S3x128x2048) (slotOff s) S1x128x2048.size (slotOff_inb s)) (fun _ => rfl)).squeeze S128x2048 squeezes_S1x128x2048_S128x2048
/-- Slot `s`'s DMA semaphore. -/
def csm (s : Fin 3) : DmaSems sig S_ := (cc0_scratch4.slice (Rect.unit (s := S3) (semOff s) S1.size (semOff_inb s))).squeeze S_ squeezes_S1_S_

instance (s : Fin 3) : ClosedOff (slotOff s) := ⟨slotOff s, rfl⟩
theorem slotStrip_eq (k : Fin k0_t1_loop.trips) (s : Fin 16) : slotStrip k s = ![k.val % 3, 0, 128 * s.val] := by
  unfold slotStrip; rw [k0_off8_eq]; rfl
instance (k : Fin k0_t1_loop.trips) (s : Fin 16) : ClosedOff (slotStrip k s) := ⟨![k.val % 3, 0, 128 * s.val], slotStrip_eq k s⟩
instance (s : Fin 16) : ClosedOff (strip s) := ⟨![0, 128 * s.val], rfl⟩

/-! ## The elements of a slot -/

/-- The elements of slot `s`: those whose first coordinate is `s`. -/
abbrev slotSet (s : Fin 3) : Finset S3x128x2048.Idx := (Rect.unit (s := S3x128x2048) (slotOff s) S1x128x2048.size (slotOff_inb s)).set
theorem rslot_set (s : Fin 3) : (rslot s : Memref sig .tc .vmem _ _).view.set = slotSet s := (View.set_reshape _ _).trans (View.set_slice_whole _ _)
theorem mem_slotSet (s : Fin 3) (y : S3x128x2048.Idx) : y ∈ slotSet s ↔ (y 0).val = s.val := by
  rw [Rect.mem_set_unit]
  have h1 : (y 1).val < 128 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 128; omega
    · show 0 ≤ (y 2).val ∧ (y 2).val < 0 + 2048; omega

/-- A strip of trip `k`'s slot lies in the slot. -/
theorem slotStrip_sub (k : Fin k0_t1_loop.trips) (s : Fin 16) :
    (ringM.access (Rect.unit (s := S3x128x2048) (slotStrip k s) S1x128x128.size (slotStrip_inb k s))).set ⊆ (rslot (Ring.sl 3 k.val)).view.set := by
  rw [rslot_set]
  rw [show (ringM.access (Rect.unit (s := S3x128x2048) (slotStrip k s) S1x128x128.size (slotStrip_inb k s))).set
    = (Rect.unit (s := S3x128x2048) (slotStrip k s) S1x128x128.size (slotStrip_inb k s)).set from View.set_slice_whole _ _]
  intro y hy
  rw [mem_slotSet]
  have h0 := Rect.mem_set_unit.1 hy 0
  rw [slotStrip_eq] at h0
  have h0' : k.val % 3 ≤ (y 0).val ∧ (y 0).val < k.val % 3 + 1 := h0
  show (y 0).val = k.val % 3
  omega

section Run
variable (c : Dev nD)

abbrev slotP (s : Fin 3) (f : Buf (Elt F) ((rslot s).view.loc (c : Thread nD τ))) : sProp 𝕄 :=
  (rslot s).view.loc (c : Thread nD τ) ↦[(rslot s).view.set]{fullShare} f
abbrev flatP (f : Buf (Elt F) (flatM.view.loc (c : Thread nD τ))) : sProp 𝕄 := flatM.view.loc (c : Thread nD τ) ↦{fullShare} f
abbrev maxP (f : Buf (Elt F) (maxM.view.loc (c : Thread nD τ))) : sProp 𝕄 := maxM.view.loc (c : Thread nD τ) ↦{fullShare} f
abbrev idxP (f : Buf (Elt F) (idxM.view.loc (c : Thread nD τ))) : sProp 𝕄 := idxM.view.loc (c : Thread nD τ) ↦{fullShare} f

set_option backward.proofsInPublic true in
def stripRun (k : Fin k0_t1_loop.trips) (s : Fin 16) (g : Buf (Elt F) ((rslot (Ring.sl 3 k.val)).view.loc (c : Thread nD τ)))
    (f4 : Buf (Elt F) (flatM.view.loc (c : Thread nD τ))) (f5 : Buf (Elt F) (maxM.view.loc (c : Thread nD τ)))
    (f6 : Buf (Elt F) (idxM.view.loc (c : Thread nD τ))) :
    Σ' (g5 : Buf (Elt F) (maxM.view.loc (c : Thread nD τ))), { g6 : Buf (Elt F) (idxM.view.loc (c : Thread nD τ)) //
      iprop(slotP c (Ring.sl 3 k.val) g ∗ flatP c f4 ∗ maxP c f5 ∗ idxP c f6)
        ⊢ wp frame (wpE (defs₀ (F := F)) 𝒱₀ (c : Thread nD τ) none) Set.univ (stripProg ringM flatM maxM idxM k s)
        (fun _ => iprop(slotP c (Ring.sl 3 k.val) g ∗ flatP c f4 ∗ maxP c g5 ∗ idxP c g6)) } := by
  refine ⟨?_, ?_, ?run⟩
  case run =>
    have hsub : (ringM.access (Rect.unit (s := S3x128x2048) (slotStrip k s) ![1, 128, 128] (slotStrip_inb k s))).set ⊆ (rslot (Ring.sl 3 k.val)).view.set := slotStrip_sub k s
    iintro ⟨Hs, H4, H5, H6⟩
    dsimp only [stripProg]
    sl_exec
    sl_step
    isplitl [Hs]; · iexact Hs
    isplitl [H4]; · iexact H4
    isplitl [H5]; · iexact H5
    iexact H6

end Run
end Cert.Proof.Trip
end
-- ==== Proof.Strips.lean ====
/-
  One strip said element by element, and the sixteen strips of a trip.
-/
module

public import proofs.«01_k».proof.Proof.Trip
public import Idealize.ShloMosaic.Lib.WritesUnit
public import Idealize.ShloMosaic.Lib.Pointwise

@[expose] public section

set_option maxRecDepth 16384

noncomputable section

namespace Cert.Proof.Trip

open Cert.KernelIdeal Cert.KernelIdeal.Gen Cert.Proof.Strip
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## One word -/

/-- A word rotated left by `a` (and `b = 32 - a` the other way). -/
def rotW (x a b : BitVec 32) : BitVec 32 := IntOp.ori (IntOp.shli .vector x a) (IntOp.shrui .vector x b)
/-- The hash of one word. -/
def hashW (f : BitVec 32) : BitVec 32 :=
  have x1 := IntOp.xori (rotW f 13#32 19#32) f
  have x0 := IntOp.addi f x1
  have x1 := IntOp.xori (rotW x1 15#32 17#32) x0
  have x0 := IntOp.addi x0 x1
  have x1 := IntOp.xori (rotW x1 26#32 6#32) x0
  have x0 := IntOp.addi x0 x1
  have x1 := IntOp.xori (rotW x1 6#32 26#32) x0
  have x0 := IntOp.addi x0 42#32
  have x1 := IntOp.addi x1 466689009#32
  have x0 := IntOp.addi x0 x1
  have x1 := IntOp.xori (rotW x1 17#32 15#32) x0
  have x0 := IntOp.addi x0 x1
  have x1 := IntOp.xori (rotW x1 29#32 3#32) x0
  have x0 := IntOp.addi x0 x1
  have x1 := IntOp.xori (rotW x1 16#32 16#32) x0
  have x0 := IntOp.addi x0 x1
  have x1 := IntOp.xori (rotW x1 24#32 8#32) x0
  have x0 := IntOp.addi x0 466689008#32
  have x1 := IntOp.addi x1 2#32
  have x0 := IntOp.addi x0 x1
  have x1 := IntOp.xori (rotW x1 13#32 19#32) x0
  have x0 := IntOp.addi x0 x1
  have x1 := IntOp.xori (rotW x1 15#32 17#32) x0
  have x0 := IntOp.addi x0 x1
  have x1 := IntOp.xori (rotW x1 26#32 6#32) x0
  have x0 := IntOp.addi x0 x1
  have x1 := IntOp.xori (rotW x1 6#32 26#32) x0
  have x0 := IntOp.addi x0 0#32
  have x1 := IntOp.addi x1 45#32
  have x0 := IntOp.addi x0 x1
  have x1 := IntOp.xori (rotW x1 17#32 15#32) x0
  have x0 := IntOp.addi x0 x1
  have x1 := IntOp.xori (rotW x1 29#32 3#32) x0
  have x0 := IntOp.addi x0 x1
  have x1 := IntOp.xori (rotW x1 16#32 16#32) x0
  have x0 := IntOp.addi x0 x1
  have x1 := IntOp.xori (rotW x1 24#32 8#32) x0
  have x0 := IntOp.addi x0 42#32
  have x1 := IntOp.addi x1 466689012#32
  have x0 := IntOp.addi x0 x1
  have x1 := IntOp.xori (rotW x1 13#32 19#32) x0
  have x0 := IntOp.addi x0 x1
  have x1 := IntOp.xori (rotW x1 15#32 17#32) x0
  have x0 := IntOp.addi x0 x1
  have x1 := IntOp.xori (rotW x1 26#32 6#32) x0
  have x0 := IntOp.addi x0 x1
  have x1 := IntOp.xori (rotW x1 6#32 26#32) x0
  have x0 := IntOp.addi x0 466689008#32
  have x1 := IntOp.addi x1 5#32
  IntOp.xori x0 x1
theorem hashV_apply (f : IVec S128x128 32) (i : S128x128.Idx) : hashV f i = hashW (f i) := rfl

/-- The noisy logit of one element: the logit `x` and the word `w` that is hashed. -/
def noisyW (x : F .f32) (w : BitVec 32) : F .f32 :=
  FloatOps.subf x (FloatOps.log (FloatOps.subf (Scalar.ofBits .f32 0x00000000#32)
    (FloatOps.log (FloatOps.maximumf (FloatOps.subf (FloatOps.ofBits .f32 (IntOp.ori (IntOp.shrui .vector (hashW w) 9#32) 1065353216#32))
      (Scalar.ofBits .f32 0x3F800000#32)) (Scalar.ofBits .f32 0x00800000#32)))))

theorem noisyV_apply (x : FVec F S128x128 .f32) (f : IVec S128x128 32) (i : S128x128.Idx) : noisyV x f i = noisyW (x i) (f i) := rfl

/-! ## One strip -/

/-- The running maximum after element `i` of trip `k`'s block was seen: the block's logits `X`, the flat indices `f4`. -/
def newMax (k : Fin k0_t1_loop.trips) (X : S128x2048.Idx → F .f32) (f4 : S128x2048.Idx → BitVec 32) (f5 : S128x2048.Idx → F .f32) (i : S128x2048.Idx) : F .f32 :=
  Scalar.select (FloatOps.cmpf .ogt (noisyW (X i) (IntOp.addi (f4 i) (baseW k))) (f5 i)) (noisyW (X i) (IntOp.addi (f4 i) (baseW k))) (f5 i)
/-- The running index after it. -/
def newIdx (k : Fin k0_t1_loop.trips) (X : S128x2048.Idx → F .f32) (f4 : S128x2048.Idx → BitVec 32) (f5 : S128x2048.Idx → F .f32)
    (f6 : S128x2048.Idx → BitVec 32) (i : S128x2048.Idx) : BitVec 32 :=
  Scalar.select (FloatOps.cmpf .ogt (noisyW (X i) (IntOp.addi (f4 i) (baseW k))) (f5 i)) (IntOp.addi (f4 i) (baseW k)) (f6 i)

/-- A slot's logits, read off the ring's contents. -/
def slotVal (k : Fin k0_t1_loop.trips) (g : S3x128x2048.Idx → F .f32) (i : S128x2048.Idx) : F .f32 := g (ix3 (Ring.sl 3 k.val) (i 0) (i 1))

section Strip
variable (c : Dev nD)

/-- The strip's words: the flat indices of the strip with the block's base added. -/
def stripW (k : Fin k0_t1_loop.trips) (s : Fin 16) (f4 : S128x2048.Idx → BitVec 32) : IVec S128x128 32 :=
  addi (View.readAt (Elt F) flatM.view (Rect.unit (s := S128x2048) (strip s) ![128, 128] (strip_inb s)).toLoadRect f4) (broadcast S128x128 (baseW k))
/-- The strip's noisy logits. -/
def stripV (k : Fin k0_t1_loop.trips) (s : Fin 16) (g : S3x128x2048.Idx → F .f32) (f4 : S128x2048.Idx → BitVec 32) : FVec F S128x128 .f32 :=
  noisyV (shapeCast S128x128 (View.readAt (Elt F) ringM.view (Rect.unit (s := S3x128x2048) (slotStrip k s) ![1, 128, 128] (slotStrip_inb k s)).toLoadRect g) shapeCasts_S1x128x128_S128x128) (stripW (F := F) k s f4)
/-- The strip's old running maximum. -/
def stripM (s : Fin 16) (f5 : S128x2048.Idx → F .f32) : FVec F S128x128 .f32 :=
  View.readAt (Elt F) maxM.view (Rect.unit (s := S128x2048) (strip s) ![128, 128] (strip_inb s)).toLoadRect f5

/-- The lane of the whole block that strip `s` reads at its own lane `j`. -/
def laneOf (s : Fin 16) (j : S128x128.Idx) : S128x2048.Idx := ix2 (j 0) ⟨128 * s.val + (j 1).val, by have := (j 1).isLt; have h : (j 1).val < 128 := this; omega⟩

/-- A slab of one layer read as a matrix. -/
theorem slab_cast {α : Type} (v : S1x128x128.Idx → α) (j : S128x128.Idx) : shapeCast S128x128 v shapeCasts_S1x128x128_S128x128 j = v (ix3 0 (j 0) (j 1)) := by
  idx_vars j
  pointwise []

theorem whole_readAt_strip {S : S128x2048.Idx → BitVec 32} (s : Fin 16) (j : S128x128.Idx) :
    View.readAt (Elt F) flatM.view (Rect.unit (s := S128x2048) (strip s) ![128, 128] (strip_inb s)).toLoadRect S j = S (laneOf s j) := by
  refine congrArg S (funext fun a => Fin.ext ?_)
  match a with
  | 0 => show 0 + 1 * (j 0).val = (j 0).val; omega
  | 1 => show 128 * s.val + 1 * (j 1).val = 128 * s.val + (j 1).val; omega

theorem stripM_apply (s : Fin 16) (f5 : S128x2048.Idx → F .f32) (j : S128x128.Idx) : stripM s f5 j = f5 (laneOf s j) := by
  refine congrArg f5 (funext fun a => Fin.ext ?_)
  match a with
  | 0 => show 0 + 1 * (j 0).val = (j 0).val; omega
  | 1 => show 128 * s.val + 1 * (j 1).val = 128 * s.val + (j 1).val; omega

theorem stripW_apply (k : Fin k0_t1_loop.trips) (s : Fin 16) (f4 : S128x2048.Idx → BitVec 32) (j : S128x128.Idx) :
    stripW (F := F) k s f4 j = IntOp.addi (f4 (laneOf s j)) (baseW k) := by
  exact congrArg (fun x => IntOp.addi x (baseW k)) (whole_readAt_strip (F := F) s j)

theorem stripV_apply (k : Fin k0_t1_loop.trips) (s : Fin 16) (g : S3x128x2048.Idx → F .f32) (f4 : S128x2048.Idx → BitVec 32) (j : S128x128.Idx) :
    stripV k s g f4 j = noisyW (slotVal k g (laneOf s j)) (IntOp.addi (f4 (laneOf s j)) (baseW k)) := by
  unfold stripV
  rw [noisyV_apply, stripW_apply]
  refine congrArg (fun x => noisyW x _) ?_
  rw [slab_cast]
  refine congrArg g (funext fun a => Fin.ext ?_)
  have e := slotStrip_eq k s
  match a with
  | 0 => exact (congrArg (fun o : Fin 3 → ℕ => o 0 + 1 * 0) e).trans rfl
  | 1 => exact (congrArg (fun o : Fin 3 → ℕ => o 1 + 1 * (j 0).val) e).trans (by show 0 + 1 * (j 0).val = (j 0).val; omega)
  | 2 => exact (congrArg (fun o : Fin 3 → ℕ => o 2 + 1 * (j 1).val) e).trans (by show 128 * s.val + 1 * (j 1).val = 128 * s.val + (j 1).val; omega)

theorem exists_lane {s : Fin 16} {i : S128x2048.Idx} (h : 128 * s.val ≤ (i 1).val ∧ (i 1).val < 128 * s.val + 128) : ∃ j, laneOf s j = i ∧ ∀ a, (i a).val = (![0, 128 * s.val] : Fin 2 → ℕ) a + (j a).val := by
  refine ⟨ix2 (i 0) ⟨(i 1).val - 128 * s.val, by omega⟩, ?_, ?_⟩
  · funext a; refine Fin.ext ?_
    match a with
    | 0 => rfl
    | 1 => show 128 * s.val + ((i 1).val - 128 * s.val) = (i 1).val; omega
  · intro a
    match a with
    | 0 => show (i 0).val = 0 + (i 0).val; omega
    | 1 => show (i 1).val = 128 * s.val + ((i 1).val - 128 * s.val); omega

/-- A strip leaves the running maximum of the other strips as it was and steps its own. -/
theorem stripRun_max (k : Fin k0_t1_loop.trips) (s : Fin 16) (g : S3x128x2048.Idx → F .f32) (f4 : S128x2048.Idx → BitVec 32) (f5 : S128x2048.Idx → F .f32) (f6 : S128x2048.Idx → BitVec 32) (i : S128x2048.Idx) :
    (stripRun (F := F) c k s g f4 f5 f6).1 i
      = if 128 * s.val ≤ (i 1).val ∧ (i 1).val < 128 * s.val + 128 then newMax k (slotVal k g) f4 f5 i else f5 i := by
  have hr : (stripRun (F := F) c k s g f4 f5 f6).1 = maxM.view.read (Elt F) (maxM.view.writes (Elt F) f5 [⟨Rect.unit (s := S128x2048) (strip s) ![128, 128] (strip_inb s),
      shapeCast S128x128 (select (cmpf .ogt (stripV k s g f4) (stripM s f5)) (stripV k s g f4) (stripM s f5)) shapeCasts_S128x128_S128x128⟩]) := rfl
  rw [hr]
  split
  · rename_i h
    obtain ⟨j, hj, hx⟩ := exists_lane h
    refine (View.read_writes_cons_unit_of_mem (Val := Elt F) (off' := ![0, 128 * s.val]) maxM.view f5 (size := ![128, 128]) (strip_inb s) _ [] i j rfl hx).trans ?_
    rw [shapeCast_self]
    show Scalar.select (FloatOps.cmpf .ogt (stripV k s g f4 j) (stripM s f5 j)) (stripV k s g f4 j) (stripM s f5 j) = _
    rw [stripV_apply, stripM_apply, hj]; rfl
  · rename_i h
    exact View.read_writes_cons_unit_of_not_mem (Val := Elt F) (off' := ![0, 128 * s.val]) maxM.view f5 (size := ![128, 128]) (strip_inb s) _ [] i rfl 1
      (by show (i 1).val < 128 * s.val ∨ 128 * s.val + 128 ≤ (i 1).val; omega)

/-- The same for the running index. -/
theorem stripRun_idx (k : Fin k0_t1_loop.trips) (s : Fin 16) (g : S3x128x2048.Idx → F .f32) (f4 : S128x2048.Idx → BitVec 32) (f5 : S128x2048.Idx → F .f32) (f6 : S128x2048.Idx → BitVec 32) (i : S128x2048.Idx) :
    (stripRun (F := F) c k s g f4 f5 f6).2.1 i
      = if 128 * s.val ≤ (i 1).val ∧ (i 1).val < 128 * s.val + 128 then newIdx k (slotVal k g) f4 f5 f6 i else f6 i := by
  have hr : (stripRun (F := F) c k s g f4 f5 f6).2.1 = idxM.view.read (Elt F) (idxM.view.writes (Elt F) f6 [⟨Rect.unit (s := S128x2048) (strip s) ![128, 128] (strip_inb s),
      shapeCast S128x128 (select (cmpf .ogt (stripV k s g f4) (stripM s f5)) (stripW (F := F) k s f4)
        (View.readAt (Elt F) idxM.view (Rect.unit (s := S128x2048) (strip s) ![128, 128] (strip_inb s)).toLoadRect f6)) shapeCasts_S128x128_S128x128⟩]) := rfl
  rw [hr]
  split
  · rename_i h
    obtain ⟨j, hj, hx⟩ := exists_lane h
    refine (View.read_writes_cons_unit_of_mem (Val := Elt F) (off' := ![0, 128 * s.val]) idxM.view f6 (size := ![128, 128]) (strip_inb s) _ [] i j rfl hx).trans ?_
    rw [shapeCast_self]
    show Scalar.select (FloatOps.cmpf .ogt (stripV k s g f4 j) (stripM s f5 j)) (stripW (F := F) k s f4 j)
      (View.readAt (Elt F) flatM.view (Rect.unit (s := S128x2048) (strip s) ![128, 128] (strip_inb s)).toLoadRect f6 j) = _
    rw [stripV_apply, stripM_apply, stripW_apply, whole_readAt_strip, hj]; rfl
  · rename_i h
    exact View.read_writes_cons_unit_of_not_mem (Val := Elt F) (off' := ![0, 128 * s.val]) idxM.view f6 (size := ![128, 128]) (strip_inb s) _ [] i rfl 1
      (by show (i 1).val < 128 * s.val ∨ 128 * s.val + 128 ≤ (i 1).val; omega)

/-! ## The sixteen strips -/

/-- The running maximum when the first `n` strips are done. -/
def maxUpto (n : ℕ) (k : Fin k0_t1_loop.trips) (X : S128x2048.Idx → F .f32) (f4 : S128x2048.Idx → BitVec 32) (f5 : S128x2048.Idx → F .f32) (i : S128x2048.Idx) : F .f32 :=
  if (i 1).val < 128 * n then newMax k X f4 f5 i else f5 i
/-- The running index then. -/
def idxUpto (n : ℕ) (k : Fin k0_t1_loop.trips) (X : S128x2048.Idx → F .f32) (f4 : S128x2048.Idx → BitVec 32) (f5 : S128x2048.Idx → F .f32)
    (f6 : S128x2048.Idx → BitVec 32) (i : S128x2048.Idx) : BitVec 32 :=
  if (i 1).val < 128 * n then newIdx k X f4 f5 f6 i else f6 i

theorem max_step (k : Fin k0_t1_loop.trips) (s : Fin 16) (g : S3x128x2048.Idx → F .f32) (f4 : S128x2048.Idx → BitVec 32) (f5 : S128x2048.Idx → F .f32) (h6 : S128x2048.Idx → BitVec 32) :
    (stripRun (F := F) c k s g f4 (maxUpto s.val k (slotVal k g) f4 f5) h6).1 = maxUpto (s.val + 1) k (slotVal k g) f4 f5 := by
  refine funext fun (i : S128x2048.Idx) => ?_
  refine (stripRun_max c k s g f4 (maxUpto s.val k (slotVal k g) f4 f5) h6 i).trans ?_
  by_cases h1 : (i 1).val < 128 * s.val
  · rw [if_neg (by omega)]; unfold maxUpto; rw [if_pos h1, if_pos (by omega)]
  · have e : maxUpto s.val k (slotVal k g) f4 f5 i = f5 i := if_neg h1
    by_cases h2 : (i 1).val < 128 * s.val + 128
    · rw [if_pos (by omega)]
      unfold newMax
      rw [e]
      exact (if_pos (by omega)).symm
    · rw [if_neg (by omega), e]
      exact (if_neg (by omega)).symm

theorem idx_step (k : Fin k0_t1_loop.trips) (s : Fin 16) (g : S3x128x2048.Idx → F .f32) (f4 : S128x2048.Idx → BitVec 32) (f5 : S128x2048.Idx → F .f32) (f6 : S128x2048.Idx → BitVec 32) :
    (stripRun (F := F) c k s g f4 (maxUpto s.val k (slotVal k g) f4 f5) (idxUpto s.val k (slotVal k g) f4 f5 f6)).2.1 = idxUpto (s.val + 1) k (slotVal k g) f4 f5 f6 := by
  refine funext fun (i : S128x2048.Idx) => ?_
  refine (stripRun_idx c k s g f4 (maxUpto s.val k (slotVal k g) f4 f5) (idxUpto s.val k (slotVal k g) f4 f5 f6) i).trans ?_
  by_cases h1 : (i 1).val < 128 * s.val
  · rw [if_neg (by omega)]; unfold idxUpto; rw [if_pos h1, if_pos (by omega)]
  · have e : maxUpto s.val k (slotVal k g) f4 f5 i = f5 i := if_neg h1
    have e' : idxUpto s.val k (slotVal k g) f4 f5 f6 i = f6 i := if_neg h1
    by_cases h2 : (i 1).val < 128 * s.val + 128
    · rw [if_pos (by omega)]
      unfold newIdx
      rw [e, e']
      exact (if_pos (by omega)).symm
    · rw [if_neg (by omega), e']
      exact (if_neg (by omega)).symm

/-- What the strips own, when the first `n` are done. -/
abbrev stripsSt (n : ℕ) (k : Fin k0_t1_loop.trips) (g : S3x128x2048.Idx → F .f32) (f4 : S128x2048.Idx → BitVec 32) (f5 : S128x2048.Idx → F .f32) (f6 : S128x2048.Idx → BitVec 32) : sProp 𝕄 :=
  iprop(slotP (F := F) c (Ring.sl 3 k.val) g ∗ flatP c f4 ∗ maxP c (maxUpto n k (slotVal k g) f4 f5) ∗ idxP c (idxUpto n k (slotVal k g) f4 f5 f6))

/-- A strip's run with its results named. -/
theorem stripRun_to (k : Fin k0_t1_loop.trips) (s : Fin 16) (g : S3x128x2048.Idx → F .f32) (f4 : S128x2048.Idx → BitVec 32) (f5 : S128x2048.Idx → F .f32) (f6 : S128x2048.Idx → BitVec 32)
    (g5 : S128x2048.Idx → F .f32) (g6 : S128x2048.Idx → BitVec 32) (h5 : (stripRun (F := F) c k s g f4 f5 f6).1 = g5) (h6 : (stripRun (F := F) c k s g f4 f5 f6).2.1 = g6) :
    iprop(slotP (F := F) c (Ring.sl 3 k.val) g ∗ flatP c f4 ∗ maxP c f5 ∗ idxP c f6) ⊢ wp frame (wpE (defs₀ (F := F)) 𝒱₀ (c : Thread nD τ) none) Set.univ (stripProg ringM flatM maxM idxM k s)
      (fun _ => iprop(slotP (F := F) c (Ring.sl 3 k.val) g ∗ flatP c f4 ∗ maxP c g5 ∗ idxP c g6)) := by
  generalize stripRun (F := F) c k s g f4 f5 f6 = r at h5 h6
  obtain ⟨a, b, h⟩ := r
  obtain rfl : a = g5 := h5
  obtain rfl : b = g6 := h6
  exact h

theorem strips_tail (k : Fin k0_t1_loop.trips) (g : S3x128x2048.Idx → F .f32) (f4 : S128x2048.Idx → BitVec 32) (f5 : S128x2048.Idx → F .f32) (f6 : S128x2048.Idx → BitVec 32) (m n : ℕ) (hmn : n + m = 16) :
    stripsSt (F := F) c n k g f4 f5 f6 ⊢ wp frame (wpE (defs₀ (F := F)) 𝒱₀ (c : Thread nD τ) none) Set.univ
      (stripsProg ringM flatM maxM idxM k ((List.finRange 16).drop n)) (fun _ => stripsSt (F := F) c 16 k g f4 f5 f6) := by
  induction m generalizing n with
  | zero =>
    obtain rfl : n = 16 := by omega
    have hd : (List.finRange 16).drop 16 = [] := by simp
    rw [hd, stripsProg]
    iintro H
    sl_step
    iexact H
  | succ m ih =>
    have hn : n < 16 := by omega
    have hd : (List.finRange 16).drop n = (⟨n, hn⟩ : Fin 16) :: (List.finRange 16).drop (n + 1) := by
      rw [List.drop_eq_getElem_cons (by simpa using hn)]; simp
    rw [hd, stripsProg, wp_bind]
    have h := stripRun_to (F := F) c k ⟨n, hn⟩ g f4 (maxUpto n k (slotVal k g) f4 f5) (idxUpto n k (slotVal k g) f4 f5 f6) (maxUpto (n + 1) k (slotVal k g) f4 f5) (idxUpto (n + 1) k (slotVal k g) f4 f5 f6)
      (max_step (F := F) c k ⟨n, hn⟩ g f4 f5 (idxUpto n k (slotVal k g) f4 f5 f6)) (idx_step (F := F) c k ⟨n, hn⟩ g f4 f5 f6)
    refine h.trans (wp_mono _ _ _ fun _ => ?_)
    exact ih (n + 1) (by omega)

theorem maxUpto_zero (k : Fin k0_t1_loop.trips) (X : S128x2048.Idx → F .f32) (f4 : S128x2048.Idx → BitVec 32) (f5 : S128x2048.Idx → F .f32) :
    maxUpto 0 k X f4 f5 = f5 := funext fun i => if_neg (by omega)
theorem idxUpto_zero (k : Fin k0_t1_loop.trips) (X : S128x2048.Idx → F .f32) (f4 : S128x2048.Idx → BitVec 32) (f5 : S128x2048.Idx → F .f32) (f6 : S128x2048.Idx → BitVec 32) :
    idxUpto 0 k X f4 f5 f6 = f6 := funext fun i => if_neg (by omega)
theorem maxUpto_all (k : Fin k0_t1_loop.trips) (X : S128x2048.Idx → F .f32) (f4 : S128x2048.Idx → BitVec 32) (f5 : S128x2048.Idx → F .f32) :
    maxUpto 16 k X f4 f5 = newMax k X f4 f5 := funext fun i => if_pos (by have : (i 1).val < 2048 := (i 1).isLt; omega)
theorem idxUpto_all (k : Fin k0_t1_loop.trips) (X : S128x2048.Idx → F .f32) (f4 : S128x2048.Idx → BitVec 32) (f5 : S128x2048.Idx → F .f32) (f6 : S128x2048.Idx → BitVec 32) :
    idxUpto 16 k X f4 f5 f6 = newIdx k X f4 f5 f6 := funext fun i => if_pos (by have : (i 1).val < 2048 := (i 1).isLt; omega)

theorem strips_all : (List.finRange 16).drop 0 = [0, 1, 2, 3, 4, 5, 6, 7, 8, 9, 10, 11, 12, 13, 14, 15] := by decide

/-- The sixteen strips of trip `k`: the running maximum and the running index of the whole block are stepped. -/
theorem strips_run (k : Fin k0_t1_loop.trips) (g : S3x128x2048.Idx → F .f32) (f4 : S128x2048.Idx → BitVec 32) (f5 : S128x2048.Idx → F .f32) (f6 : S128x2048.Idx → BitVec 32) :
    iprop(slotP (F := F) c (Ring.sl 3 k.val) g ∗ flatP c f4 ∗ maxP c f5 ∗ idxP c f6) ⊢ wp frame (wpE (defs₀ (F := F)) 𝒱₀ (c : Thread nD τ) none) Set.univ
      (stripsProg ringM flatM maxM idxM k [0, 1, 2, 3, 4, 5, 6, 7, 8, 9, 10, 11, 12, 13, 14, 15])
      (fun _ => iprop(slotP (F := F) c (Ring.sl 3 k.val) g ∗ flatP c f4 ∗ maxP c (newMax k (slotVal k g) f4 f5) ∗ idxP c (newIdx k (slotVal k g) f4 f5 f6))) := by
  have h := strips_tail (F := F) c k g f4 f5 f6 16 0 rfl
  rw [strips_all] at h
  unfold stripsSt at h
  rw [maxUpto_zero, idxUpto_zero, maxUpto_all, idxUpto_all] at h
  exact h

end Strip
end Cert.Proof.Trip
end
-- ==== Proof.Head.lean ====
/-
  The ring of three blocks: its pieces, and the head of a trip (a copy started, a copy awaited).
-/
module

public import proofs.«01_k».proof.Proof.Trip
public import Idealize.ShloMosaic.Lib.Ring

@[expose] public section

set_option maxRecDepth 16384

noncomputable section

namespace Cert.Proof.Trip

open Cert.KernelIdeal Cert.KernelIdeal.Gen Cert.Proof.Strip
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The blocks of columns, the slots and the semaphores by name -/

theorem trips_eq : k0_t1_loop.trips = 49 := by decide
theorem cond1_iff : ∀ k : Fin k0_t1_loop.trips, k0_cond1 k = 1#1 ↔ k.val + 2 < 49 := by decide +kernel
theorem cond2_iff : ∀ k : Fin k0_t1_loop.trips, k0_cond2 k = 1#1 ↔ k.val + 2 < 48 := by decide +kernel
theorem cond3_iff : ∀ k : Fin k0_t1_loop.trips, k0_cond3 k = 1#1 ↔ k.val + 2 = 48 := by decide +kernel

abbrev colOff (b : Fin 48) : Fin 2 → Nat := ![0, 2048 * b.val]
theorem colOff_inb (b : Fin 48) : ∀ a, colOff b a + S128x2048.size a ≤ S128x100000.size a := by
  have := b.isLt; intro a; fin_cases a
  · show 0 + 128 ≤ 128; omega
  · show 2048 * b.val + 2048 ≤ 100000; omega
/-- Block `b` of the logits: columns `2048 b` to `2048 b + 2047`. -/
def cblk (b : Fin 48) : Memref sig .tc .hbm S128x2048 .f32 := aM.slice (Rect.unit (s := S128x100000) (colOff b) S128x2048.size (colOff_inb b)) (fun _ => rfl)
instance (b : Fin 48) : ClosedOff (colOff b) := ⟨colOff b, rfl⟩

theorem csm_congr {off : Fin 1 → Nat} {s : Fin 3} (e : off = semOff s) (hh) :
    (cc0_scratch4.slice (Rect.unit (s := S3) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 3} (e : off = slotOff s) (hh hs) :
    (ringM.slice (Rect.unit (s := S3x128x2048) off S1x128x2048.size hh) hs).squeeze S128x2048 squeezes_S1x128x2048_S128x2048 = rslot s :=
  congrArg (fun M : Memref sig .tc .vmem S1x128x2048 .f32 => M.squeeze S128x2048 squeezes_S1x128x2048_S128x2048) (Memref.slice_unit_congr _ e _ _ _ _)
theorem cblk_congr {off : Fin 2 → Nat} {b : Fin 48} (e : off = colOff b) (hh hs) :
    aM.slice (Rect.unit (s := S128x100000) off S128x2048.size hh) hs = cblk b := Memref.slice_unit_congr _ e _ _ hs (fun _ => rfl)

@[sl_canon] theorem semL0 (hh) : (cc0_scratch4.slice (Rect.unit (s := S3) ![0] S1.size hh)).squeeze S_ squeezes_S1_S_ = csm 0 := csm_congr (by decide) _
@[sl_canon] theorem semL1 (hh) : (cc0_scratch4.slice (Rect.unit (s := S3) ![1] S1.size hh)).squeeze S_ squeezes_S1_S_ = csm 1 := csm_congr (by decide) _
@[sl_canon] theorem slotL0 (hh hs) : (ringM.slice (Rect.unit (s := S3x128x2048) ![0, 0, 0] S1x128x2048.size hh) hs).squeeze S128x2048 squeezes_S1x128x2048_S128x2048 = rslot 0 := rslot_congr (by decide) _ _
@[sl_canon] theorem slotL1 (hh hs) : (ringM.slice (Rect.unit (s := S3x128x2048) ![1, 0, 0] S1x128x2048.size hh) hs).squeeze S128x2048 squeezes_S1x128x2048_S128x2048 = rslot 1 := rslot_congr (by decide) _ _
@[sl_canon] theorem colL0 (hh hs) : aM.slice (Rect.unit (s := S128x100000) ![0, 0] S128x2048.size hh) hs = cblk 0 := cblk_congr (by decide) _ _
@[sl_canon] theorem colL1 (hh hs) : aM.slice (Rect.unit (s := S128x100000) ![0, 2048] S128x2048.size hh) hs = cblk 1 := cblk_congr (by decide) _ _

@[sl_canon] theorem semK1 (k : Fin k0_t1_loop.trips) (hh) : (cc0_scratch4.slice (Rect.unit (s := S3) (k0_off1 k) S1.size hh)).squeeze S_ squeezes_S1_S_ = csm (Ring.sl 3 (k.val + 2)) := csm_congr (k0_off1_eq k) _
@[sl_canon] theorem semK4 (k : Fin k0_t1_loop.trips) (hh) : (cc0_scratch4.slice (Rect.unit (s := S3) (k0_off4 k) S1.size hh)).squeeze S_ squeezes_S1_S_ = csm (Ring.sl 3 (k.val + 2)) := csm_congr (k0_off4_eq k) _
@[sl_canon] theorem semK6 (k : Fin k0_t1_loop.trips) (hh) : (cc0_scratch4.slice (Rect.unit (s := S3) (k0_off6 k) S1.size hh)).squeeze S_ squeezes_S1_S_ = csm (Ring.sl 3 k.val) := csm_congr (k0_off6_eq k) _
@[sl_canon] theorem slotK2 (k : Fin k0_t1_loop.trips) (hh hs) : (ringM.slice (Rect.unit (s := S3x128x2048) (k0_off2 k) S1x128x2048.size hh) hs).squeeze S128x2048 squeezes_S1x128x2048_S128x2048 = rslot (Ring.sl 3 (k.val + 2)) := rslot_congr (k0_off2_eq k) _ _
@[sl_canon] theorem slotK5 (k : Fin k0_t1_loop.trips) (hh hs) : (ringM.slice (Rect.unit (s := S3x128x2048) (k0_off5 k) S1x128x2048.size hh) hs).squeeze S128x2048 squeezes_S1x128x2048_S128x2048 = rslot (Ring.sl 3 (k.val + 2)) := rslot_congr (k0_off5_eq k) _ _
@[sl_canon] theorem slotK7 (k : Fin k0_t1_loop.trips) (hh hs) : (ringM.slice (Rect.unit (s := S3x128x2048) (k0_off7 k) S1x128x2048.size hh) hs).squeeze S128x2048 squeezes_S1x128x2048_S128x2048 = rslot (Ring.sl 3 k.val) := rslot_congr (k0_off7_eq k) _ _
theorem off3_eq (k : Fin k0_t1_loop.trips) (h : k.val + 2 < 48) : k0_off3 k = colOff ⟨k.val + 2, h⟩ := by
  rw [k0_off3_eq]; unfold colOff; rw [show 2048 * k.val + 4096 = 2048 * (k.val + 2) by omega]
@[sl_canon] theorem colK3 (k : Fin k0_t1_loop.trips) (h : k.val + 2 < 48) (hh hs) : aM.slice (Rect.unit (s := S128x100000) (k0_off3 k) S128x2048.size hh) hs = cblk ⟨k.val + 2, h⟩ := cblk_congr (off3_eq k h) _ _

/-! ## The pieces of the ring -/

section Pieces
variable (c : Dev nD) (XA : Buf (Elt F) (aM.view.loc (c : Thread nD τ))) (XT : Buf (Elt F) (tM.view.loc (c : Thread nD τ)))

abbrev cellP (s : Fin 3) : sProp 𝕄 := semVal ((c : Thread nD τ), SemLoc.dma (csm s).sem) 0
abbrev cblkP (b : Fin 48) : sProp 𝕄 := (cblk b).view.loc (c : Thread nD τ) ↦[(cblk b).view.set]{fullShare} XA
abbrev tailP : sProp 𝕄 := tM.view.loc (c : Thread nD τ) ↦[tM.view.set]{fullShare} XT

/-- Block `b` at home: the first 48 are blocks of columns of the logits, the last is the array of the last columns. -/
def homeP (b : Fin 49) : sProp 𝕄 := if h : b.val < 48 then cblkP c XA ⟨b.val, h⟩ else tailP c XT
/-- What block `b` reads. -/
def blockRead (b : Fin 49) : S128x2048.Idx → F .f32 := if h : b.val < 48 then (cblk ⟨b.val, h⟩).view.read (Elt F) XA else tM.view.read (Elt F) XT

theorem homeP_lt (n : ℕ) (h : n < 48) : homeP c XA XT (Ring.bk 49 n) = cblkP c XA ⟨n, h⟩ := by
  have e : (Ring.bk 49 n).val = n := Ring.bk_val (by omega)
  unfold homeP; rw [dif_pos (by omega)]
  exact congrArg (cblkP c XA) (Fin.ext e)
theorem homeP_last (n : ℕ) (h : n = 48) : homeP c XA XT (Ring.bk 49 n) = tailP c XT := by
  subst h; exact dif_neg (by decide)
theorem blockRead_lt (n : ℕ) (h : n < 48) : blockRead c XA XT (Ring.bk 49 n) = (cblk ⟨n, h⟩).view.read (Elt F) XA := by
  have e : (Ring.bk 49 n).val = n := Ring.bk_val (by omega)
  unfold blockRead; rw [dif_pos (by omega)]
  exact congrArg (fun b : Fin 48 => (cblk b).view.read (Elt F) XA) (Fin.ext e)
theorem blockRead_last (n : ℕ) (h : n = 48) : blockRead c XA XT (Ring.bk 49 n) = tM.view.read (Elt F) XT := by
  subst h; exact dif_neg (by decide)

/-- Slot `s` with the words `w` copied into it, over what it held. -/
abbrev landedW (s : Fin 3) (w : S128x2048.Idx → F .f32) (f : Buf (Elt F) ((rslot s).view.loc (c : Thread nD τ))) : Buf (Elt F) ((rslot s).view.loc (c : Thread nD τ)) :=
  (rslot s).view.writes (Elt F) f [⟨Rect.whole S128x2048, ReadAs.same.apply w⟩]
abbrev landed (s : Fin 3) (b : Fin 49) (f : Buf (Elt F) ((rslot s).view.loc (c : Thread nD τ))) : Buf (Elt F) ((rslot s).view.loc (c : Thread nD τ)) :=
  landedW c s (blockRead c XA XT b) f
/-- Slot `s` in flight with block `b`, started over `f`. -/
abbrev flightP (s : Fin 3) (b : Fin 49) (f : Buf (Elt F) ((rslot s).view.loc (c : Thread nD τ))) : sProp 𝕄 :=
  Transfers.Flight countersEmb (c : Thread nD τ) (SemLoc.dma (csm s).sem) () 32768 iprop(slotP c s (landed c XA XT s b f) ∗ homeP c XA XT b)

/-- The ring before trip `p`. -/
abbrev ringAt (p : ℕ) : sProp 𝕄 := Ring.At 2 (cellP (F := F) c) (fun s f => slotP (F := F) c s f) (homeP c XA XT) (flightP c XA XT) p

abbrev owesE : sProp 𝕄 := iprop(∃ W, owes (c : Thread nD τ) 0 W)
abbrev headG (k : Fin k0_t1_loop.trips) : Prog (TpuEff nD τ sig (Elt F) Λ₀ .tc) Unit := headProg aM tM (Memref.isWhole_whole _) ringM cc0_scratch4 k

end Pieces

section Head
variable (c : Dev nD) (XA : Buf (Elt F) (aM.view.loc (c : Thread nD τ))) (XT : Buf (Elt F) (tM.view.loc (c : Thread nD τ)))

/-- A trip that starts the copy of a block of columns: -/
theorem head_inner (k : Fin k0_t1_loop.trips) (h : k.val + 2 < 48) :
    iprop(homeP c XA XT (Ring.bk 49 (k.val + 2)) ∗ (∃ f, flightP c XA XT (Ring.sl 3 k.val) (Ring.bk 49 k.val) f) ∗ cellP c (Ring.sl 3 (k.val + 2)) ∗ (∃ f, slotP c (Ring.sl 3 (k.val + 2)) f) ∗ owesE c)
      ⊢ wp frame (wpE (defs₀ (F := F)) 𝒱₀ (c : Thread nD τ) none) Set.univ (headG k)
        (fun _ => iprop((∃ f, slotP c (Ring.sl 3 k.val) (landed c XA XT (Ring.sl 3 k.val) (Ring.bk 49 k.val) f)) ∗ cellP c (Ring.sl 3 k.val) ∗ homeP c XA XT (Ring.bk 49 k.val)
          ∗ (∃ f, flightP c XA XT (Ring.sl 3 (k.val + 2)) (Ring.bk 49 (k.val + 2)) f) ∗ owesE c)) := by
  have h1 : k0_cond1 k = 1#1 := (cond1_iff k).2 (by omega)
  have h2 : k0_cond2 k = 1#1 := (cond2_iff k).2 h
  have h3 : ¬ k0_cond3 k = 1#1 := fun e => by have := (cond3_iff k).1 e; omega
  unfold flightP landed
  rw [homeP_lt c XA XT (k.val + 2) h, blockRead_lt c XA XT (k.val + 2) h, homeP_lt c XA XT k.val (by omega), blockRead_lt c XA XT k.val (by omega)]
  iintro ⟨Hg, ⟨%f0, HF0⟩, Hc, ⟨%f2, Hs⟩, ⟨%W, HW⟩⟩
  sl_unfold [headG, headProg]
  sl_exec
  sl_step
  isplitl [HF0_dst]; · iexists f0; iexact HF0_dst
  isplitl [HF0]; · iexact HF0
  isplitl [HF0_src]; · iexact HF0_src
  isplitl [Hc]; · iexists f2; iexact Hc
  iexists _; iexact HW

/-- the trip that starts the copy of the last columns; -/
theorem head_last (k : Fin k0_t1_loop.trips) (h : k.val + 2 = 48) :
    iprop(homeP c XA XT (Ring.bk 49 (k.val + 2)) ∗ (∃ f, flightP c XA XT (Ring.sl 3 k.val) (Ring.bk 49 k.val) f) ∗ cellP c (Ring.sl 3 (k.val + 2)) ∗ (∃ f, slotP c (Ring.sl 3 (k.val + 2)) f) ∗ owesE c)
      ⊢ wp frame (wpE (defs₀ (F := F)) 𝒱₀ (c : Thread nD τ) none) Set.univ (headG k)
        (fun _ => iprop((∃ f, slotP c (Ring.sl 3 k.val) (landed c XA XT (Ring.sl 3 k.val) (Ring.bk 49 k.val) f)) ∗ cellP c (Ring.sl 3 k.val) ∗ homeP c XA XT (Ring.bk 49 k.val)
          ∗ (∃ f, flightP c XA XT (Ring.sl 3 (k.val + 2)) (Ring.bk 49 (k.val + 2)) f) ∗ owesE c)) := by
  have h1 : k0_cond1 k = 1#1 := (cond1_iff k).2 (by omega)
  have h2 : ¬ k0_cond2 k = 1#1 := fun e => by have := (cond2_iff k).1 e; omega
  have h3 : k0_cond3 k = 1#1 := (cond3_iff k).2 h
  unfold flightP landed
  rw [homeP_last c XA XT (k.val + 2) h, blockRead_last c XA XT (k.val + 2) h, homeP_lt c XA XT k.val (by omega), blockRead_lt c XA XT k.val (by omega)]
  iintro ⟨Hg, ⟨%f0, HF0⟩, Hc, ⟨%f2, Hs⟩, ⟨%W, HW⟩⟩
  sl_unfold [headG, headProg]
  sl_exec
  sl_step
  isplitl [HF0_dst]; · iexists f0; iexact HF0_dst
  isplitl [HF0]; · iexact HF0
  isplitl [HF0_src]; · iexact HF0_src
  isplitl [Hc]; · iexists f2; iexact Hc
  iexists _; iexact HW

/-- and the two last trips, which start none. -/
theorem head_tail (k : Fin k0_t1_loop.trips) (h : 49 ≤ k.val + 2) :
    iprop((∃ f, flightP c XA XT (Ring.sl 3 k.val) (Ring.bk 49 k.val) f) ∗ owesE c)
      ⊢ wp frame (wpE (defs₀ (F := F)) 𝒱₀ (c : Thread nD τ) none) Set.univ (headG k)
        (fun _ => iprop((∃ f, slotP c (Ring.sl 3 k.val) (landed c XA XT (Ring.sl 3 k.val) (Ring.bk 49 k.val) f)) ∗ cellP c (Ring.sl 3 k.val) ∗ homeP c XA XT (Ring.bk 49 k.val) ∗ owesE c)) := by
  have h1 : ¬ k0_cond1 k = 1#1 := fun e => by have := (cond1_iff k).1 e; omega
  have ht : k.val < 49 := k.isLt.trans_eq trips_eq
  unfold flightP landed
  by_cases hk : k.val < 48
  · rw [homeP_lt c XA XT k.val hk, blockRead_lt c XA XT k.val hk]
    iintro ⟨⟨%f0, HF0⟩, ⟨%W, HW⟩⟩
    sl_unfold [headG, headProg]
    sl_exec
    sl_step
    isplitl [HF0_dst]; · iexists f0; iexact HF0_dst
    isplitl [HF0]; · iexact HF0
    isplitl [HF0_src]; · iexact HF0_src
    iexists _; iexact HW
  · rw [homeP_last c XA XT k.val (by omega), blockRead_last c XA XT k.val (by omega)]
    iintro ⟨⟨%f0, HF0⟩, ⟨%W, HW⟩⟩
    sl_unfold [headG, headProg]
    sl_exec
    sl_step
    isplitl [HF0_dst]; · iexists f0; iexact HF0_dst
    isplitl [HF0]; · iexact HF0
    isplitl [HF0_src]; · iexact HF0_src
    iexists _; iexact HW

/-- The head of any trip: the ring at trip `k` gives this trip's slot with its block in it, and the slot given back the
    ring at trip `k + 1`. -/
theorem head_run (k : Fin k0_t1_loop.trips) :
    iprop(ringAt c XA XT k.val ∗ owesE c)
      ⊢ wp frame (wpE (defs₀ (F := F)) 𝒱₀ (c : Thread nD τ) none) Set.univ (headG k)
        (fun _ => iprop((∃ f, slotP c (Ring.sl 3 k.val) (landed c XA XT (Ring.sl 3 k.val) (Ring.bk 49 k.val) f))
          ∗ ((∃ f, slotP c (Ring.sl 3 k.val) f) -∗ ringAt c XA XT (k.val + 1)) ∗ owesE c)) := by
  have ht : k.val < 49 := k.isLt.trans_eq trips_eq
  by_cases hB : k.val + 2 < 49
  · have hr : iprop(homeP c XA XT (Ring.bk 49 (k.val + 2)) ∗ (∃ f, flightP c XA XT (Ring.sl 3 k.val) (Ring.bk 49 k.val) f) ∗ cellP c (Ring.sl 3 (k.val + 2)) ∗ (∃ f, slotP c (Ring.sl 3 (k.val + 2)) f) ∗ owesE c)
      ⊢ wp frame (wpE (defs₀ (F := F)) 𝒱₀ (c : Thread nD τ) none) Set.univ (headG k)
        (fun _ => iprop((∃ f, slotP c (Ring.sl 3 k.val) (landed c XA XT (Ring.sl 3 k.val) (Ring.bk 49 k.val) f)) ∗ cellP c (Ring.sl 3 k.val) ∗ homeP c XA XT (Ring.bk 49 k.val)
          ∗ (∃ f, flightP c XA XT (Ring.sl 3 (k.val + 2)) (Ring.bk 49 (k.val + 2)) f) ∗ owesE c)) := by
      by_cases h : k.val + 2 < 48
      · exact head_inner c XA XT k h
      · exact head_last c XA XT k (by omega)
    unfold ringAt
    rw [Ring.At3_here _ _ _ _ k.val hB, Ring.At3_next _ _ _ _ k.val hB, Ring.slotAt3_next0 _ _ _ k.val (by omega), Ring.slotAt3_next1 _ _ _ k.val hB]
    iintro ⟨⟨⟨Hg, Hrest⟩, HF0, HF1, Hc, Hs⟩, HW⟩
    iapply (wp_wand_r Idealize.ShloMosaic.frame (wpE (defs₀ (F := F)) 𝒱₀ (c : Thread nD τ) none) Set.univ)
    isplitl [Hg HF0 Hc Hs HW]
    · iapply hr
      isplitl [Hg]; · iexact Hg
      isplitl [HF0]; · iexact HF0
      isplitl [Hc]; · iexact Hc
      isplitl [Hs]; · iexact Hs
      iexact HW
    · iintro %_ ⟨Hl, Hc, Hh, HF, HW⟩
      isplitl [Hl]; · iexact Hl
      isplitr [HW]
      · iintro Hs
        isplitl [Hh Hrest]
        · isplitl [Hh]; · iexact Hh
          iexact Hrest
        isplitl [HF1]; · iexact HF1
        isplitl [HF]; · iexact HF
        isplitl [Hc]; · iexact Hc
        iexact Hs
      · iexact HW
  · unfold ringAt
    rw [Ring.At3_here_tail _ _ _ _ k.val ht, Ring.At3_next_tail _ _ _ _ k.val (by omega) ht, Ring.slotAt3_tail_role]
    iintro ⟨⟨Hrest, HF0, HF1, Hfree⟩, HW⟩
    iapply (wp_wand_r Idealize.ShloMosaic.frame (wpE (defs₀ (F := F)) 𝒱₀ (c : Thread nD τ) none) Set.univ)
    isplitl [HF0 HW]
    · iapply (head_tail c XA XT k (by omega))
      isplitl [HF0]; · iexact HF0
      iexact HW
    · iintro %_ ⟨Hl, Hc, Hh, HW⟩
      isplitl [Hl]; · iexact Hl
      isplitr [HW]
      · iintro Hs
        isplitl [Hh Hrest]
        · isplitl [Hh]; · iexact Hh
          iexact Hrest
        isplitl [HF1]; · iexact HF1
        isplitl [Hfree]; · iexact Hfree
        isplitl [Hc]; · iexact Hc
        iexact Hs
      · iexact HW

end Head
end Cert.Proof.Trip
end
-- ==== Proof.Body.lean ====
/-
  The printed trip is the head and then the sixteen strips.
-/
module

public import proofs.«01_k».proof.Proof.Strip

@[expose] public section

noncomputable section

namespace Cert.Proof.Strip

open Cert.KernelIdeal Cert.KernelIdeal.Gen
open Idealize.ShloMosaic Idealize.SL.Sem

variable {F : FTy → Type} [FloatOps F]

section Progs
variable (arg0 : Memref sig .tc .hbm S128x100000 .f32) (harg0 : arg0.IsWhole)
  (arg1 : Memref sig .tc .hbm S128x2048 .f32) (harg1 : arg1.IsWhole)
  (arg2 : Memref sig .tc .vmem S128x1 .i32) (harg2 : arg2.IsWhole)
  (arg3 : Memref sig .tc .vmem S3x128x2048 .f32) (harg3 : arg3.IsWhole)
  (arg4 : Memref sig .tc .vmem S128x2048 .i32) (harg4 : arg4.IsWhole)
  (arg5 : Memref sig .tc .vmem S128x2048 .f32) (harg5 : arg5.IsWhole)
  (arg6 : Memref sig .tc .vmem S128x2048 .i32) (harg6 : arg6.IsWhole)
  (arg7 : DmaSems sig S3)

set_option maxRecDepth 65536 in
set_option maxHeartbeats 0 in
/-- The printed trip is the head and then the sixteen strips: the head's conditions are decided either way, and what
    is left on each side is the same straight line of operations. -/
theorem body_eq (k : Fin k0_t1_loop.trips) :
    k0_t1_body (F := F) arg0 harg0 arg1 harg1 arg2 harg2 arg3 harg3 arg4 harg4 arg5 harg5 arg6 harg6 arg7 k ()
      = (do headProg arg0 arg1 harg1 arg3 arg7 k
            stripsProg arg3 arg4 arg5 arg6 k [0, 1, 2, 3, 4, 5, 6, 7, 8, 9, 10, 11, 12, 13, 14, 15]) := by
  by_cases h1 : k0_cond1 k = 1#1
  · by_cases h2 : k0_cond2 k = 1#1 <;> by_cases h3 : k0_cond3 k = 1#1 <;>
    · unfold k0_t1_body k0_part71 k0_part1 headProg
      simp only [h1, h2, h3, dite_true, dite_false]
      rfl
  · unfold k0_t1_body k0_part71 k0_part1 headProg
    simp only [h1, dite_false]
    rfl

end Progs

end Cert.Proof.Strip

end
-- ==== Proof.Loop.lean ====
/-
  The loop: what the running maximum and the running index hold before each trip, and one trip run.
-/
module

public import proofs.«01_k».proof.Proof.Strips
public import proofs.«01_k».proof.Proof.Head
public import proofs.«01_k».proof.Proof.Body
public import Idealize.ShloMosaic.Lib.Exec

@[expose] public section

set_option maxRecDepth 16384

noncomputable section

namespace Cert.Proof.Trip

open Cert.KernelIdeal Cert.KernelIdeal.Gen Cert.Proof.Strip
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Loop
variable (c : Dev nD) (XA : Buf (Elt F) (aM.view.loc (c : Thread nD τ))) (XT : Buf (Elt F) (tM.view.loc (c : Thread nD τ)))

/-- A slot's contents read through its view are the ring's, at the slot's layer. -/
theorem slotVal_eq_read (k : Fin k0_t1_loop.trips) (g : S3x128x2048.Idx → F .f32) : slotVal k g = (rslot (Ring.sl 3 k.val)).view.read (Elt F) g := by
  funext i
  have e : (rslot (Ring.sl 3 k.val)).view.read (Elt F) g i
      = shapeCast S128x2048 (fun j : S1x128x2048.Idx => g ((Rect.unit (s := S3x128x2048) (slotOff (Ring.sl 3 k.val)) S1x128x2048.size (slotOff_inb _)).emb j)) (by decide) i := rfl
  rw [e]
  idx_vars i
  pointwise []
  refine congrArg g (funext fun a => Fin.ext ?_)
  match a with
  | 0 => rfl
  | 1 => show i0.val = 0 + 1 * i0.val; omega
  | 2 => show i1.val = 0 + 1 * i1.val; omega

theorem slotVal_landed (k : Fin k0_t1_loop.trips) (w : S128x2048.Idx → F .f32) (f : S3x128x2048.Idx → F .f32) :
    slotVal k (landedW c (Ring.sl 3 k.val) w f) = w :=
  (slotVal_eq_read k _).trans (View.read_writes_whole _ _ _)

/-- The running maximum and the running index before trip `p`, from what the stores before the loop left. -/
def accAt : ℕ → (S128x2048.Idx → F .f32) × (S128x2048.Idx → BitVec 32)
  | 0 => (k0_pay709 (F := F), k0_pay710)
  | p + 1 => if h : p < k0_t1_loop.trips then
      (newMax ⟨p, h⟩ (blockRead c XA XT (Ring.bk 49 p)) k0_pay708 (accAt p).1, newIdx ⟨p, h⟩ (blockRead c XA XT (Ring.bk 49 p)) k0_pay708 (accAt p).1 (accAt p).2)
    else accAt p

theorem accAt_succ (k : Fin k0_t1_loop.trips) : accAt c XA XT (k.val + 1)
    = (newMax k (blockRead c XA XT (Ring.bk 49 k.val)) k0_pay708 (accAt c XA XT k.val).1, newIdx k (blockRead c XA XT (Ring.bk 49 k.val)) k0_pay708 (accAt c XA XT k.val).1 (accAt c XA XT k.val).2) := by
  rw [accAt, dif_pos k.isLt]

/-- What the loop holds before trip `p`. -/
abbrev loopAt (p : ℕ) : sProp 𝕄 :=
  iprop(ringAt c XA XT p ∗ owesE c ∗ flatP c k0_pay708 ∗ maxP c (accAt c XA XT p).1 ∗ idxP c (accAt c XA XT p).2)

variable (arg2 : Memref sig .tc .vmem S128x1 .i32) (harg2 : arg2.IsWhole)

/-- The strips on a slot that holds block `k`. -/
theorem strips_block (k : Fin k0_t1_loop.trips) (f : S3x128x2048.Idx → F .f32) (f4 : S128x2048.Idx → BitVec 32) (f5 : S128x2048.Idx → F .f32) (f6 : S128x2048.Idx → BitVec 32) :
    iprop(slotP (F := F) c (Ring.sl 3 k.val) (landed c XA XT (Ring.sl 3 k.val) (Ring.bk 49 k.val) f) ∗ flatP c f4 ∗ maxP c f5 ∗ idxP c f6) ⊢ wp frame (wpE (defs₀ (F := F)) 𝒱₀ (c : Thread nD τ) none) Set.univ
      (stripsProg ringM flatM maxM idxM k [0, 1, 2, 3, 4, 5, 6, 7, 8, 9, 10, 11, 12, 13, 14, 15])
      (fun _ => iprop(slotP (F := F) c (Ring.sl 3 k.val) (landed c XA XT (Ring.sl 3 k.val) (Ring.bk 49 k.val) f) ∗ flatP c f4
        ∗ maxP c (newMax k (blockRead c XA XT (Ring.bk 49 k.val)) f4 f5) ∗ idxP c (newIdx k (blockRead c XA XT (Ring.bk 49 k.val)) f4 f5 f6))) := by
  have h := strips_run c k (landed c XA XT (Ring.sl 3 k.val) (Ring.bk 49 k.val) f) f4 f5 f6
  rw [slotVal_landed] at h
  exact h

/-- One trip. -/
theorem trip_run (k : Fin k0_t1_loop.trips) :
    loopAt c XA XT k.val ⊢ wp frame (wpE (defs₀ (F := F)) 𝒱₀ (c : Thread nD τ) none) Set.univ
      (k0_t1_body (F := F) aM (Memref.isWhole_whole _) tM (Memref.isWhole_whole _) arg2 harg2 ringM (Memref.isWhole_whole _) flatM (Memref.isWhole_whole _) maxM (Memref.isWhole_whole _) idxM (Memref.isWhole_whole _) cc0_scratch4 k ())
      (fun _ => loopAt c XA XT (k.val + 1)) := by
  rw [Cert.Proof.Strip.body_eq, wp_bind]
  unfold loopAt
  rw [accAt_succ]
  iintro ⟨HR, HW, H4, H5, H6⟩
  iapply (wp_wand_r Idealize.ShloMosaic.frame (wpE (defs₀ (F := F)) 𝒱₀ (c : Thread nD τ) none) Set.univ)
  isplitl [HR HW]
  · iapply (head_run c XA XT k)
    isplitl [HR]; · iexact HR
    iexact HW
  · iintro %_ ⟨⟨%f, Hs⟩, HB, HW⟩
    iapply (wp_wand_r Idealize.ShloMosaic.frame (wpE (defs₀ (F := F)) 𝒱₀ (c : Thread nD τ) none) Set.univ)
    isplitl [Hs H4 H5 H6]
    · iapply (strips_block c XA XT k f k0_pay708 (accAt c XA XT k.val).1 (accAt c XA XT k.val).2)
      isplitl [Hs]; · iexact Hs
      isplitl [H4]; · iexact H4
      isplitl [H5]; · iexact H5
      iexact H6
    · iintro %_ ⟨Hs, H4, H5, H6⟩
      isplitl [HB Hs]
      · iapply HB; iexists _; iexact Hs
      isplitl [HW]; · iexact HW
      isplitl [H4]; · iexact H4
      isplitl [H5]; · iexact H5
      iexact H6

/-- The loop's invariant. -/
@[implicit_reducible] def tripsInv : LoopInvTy_k0_t1 (F := F) Unit ℕ (UU nD τ) ℕ 𝒱₀ c none Set.univ aM (Memref.isWhole_whole _) tM (Memref.isWhole_whole _) arg2 harg2 ringM (Memref.isWhole_whole _) flatM (Memref.isWhole_whole _) maxM (Memref.isWhole_whole _) idxM (Memref.isWhole_whole _) cc0_scratch4 where
  inv p _ := loopAt c XA XT p
  step k acc := match acc with | () => trip_run c XA XT arg2 harg2 k

end Loop
end Cert.Proof.Trip
end
-- ==== Proof.Whole.lean ====
/-
  The whole body: the stores and the two copies before the loop, the loop, the reduction after it.
-/
module

public import proofs.«01_k».proof.Proof.Loop

@[expose] public section

set_option maxRecDepth 16384

noncomputable section

namespace Cert.Proof.Trip

open Cert.KernelIdeal Cert.KernelIdeal.Gen Cert.Proof.Strip
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Whole
variable (c : Dev nD) (XA : Buf (Elt F) (aM.view.loc (c : Thread nD τ))) (XT : Buf (Elt F) (tM.view.loc (c : Thread nD τ)))
variable (arg2 : Memref sig .tc .vmem S128x1 .i32) (harg2 : arg2.IsWhole)

/-- The kernel's body on the launch's buffers. -/
abbrev bodyG : Prog (TpuEff nD τ sig (Elt F) Λ₀ .tc) PUnit :=
  cc0__body (F := F) aM (Memref.isWhole_whole _) tM (Memref.isWhole_whole _) arg2 harg2 ringM (Memref.isWhole_whole _) flatM (Memref.isWhole_whole _) maxM (Memref.isWhole_whole _) idxM (Memref.isWhole_whole _) cc0_scratch4

/-- A buffer rewritten whole holds what was written. -/
theorem writes_full {sp : Space} {s : Shape} {e : EltTy} (v : View sig .tc sp s e) (f : v.ty.Contents (Elt F)) (off : Fin s.rank → ℕ) (h0 : ∀ a, off a = 0)
    (inb : ∀ a, off a + s.size a ≤ s.size a) (w : s.Idx → Elt F e) :
    v.read (Elt F) (v.writes (Elt F) f [⟨Rect.unit (s := s) off s.size inb, w⟩]) = w := by
  funext y
  exact View.read_writes_cons_unit_of_mem (Val := Elt F) v f (off := off) (off' := off) (size := s.size) inb w [] y y rfl (fun a => by rw [h0 a, Nat.zero_add])

theorem off00 : ∀ a : Fin 2, (![0, 0] : Fin 2 → ℕ) a = 0 := fun a => by fin_cases a <;> rfl

theorem accAt_zero : accAt c XA XT 0 = (k0_pay709 (F := F), k0_pay710) := rfl

/-- The ring before the first trip: the first two blocks in flight. -/
theorem ring_zero : ringAt c XA XT 0
    = iprop(bigSep (Ring.homeSet (NB := 49) 2 0) (homeP c XA XT)
      ∗ (∃ f, Transfers.Flight countersEmb (c : Thread nD τ) (SemLoc.dma (csm 0).sem) () 32768 iprop(slotP c 0 (landedW c 0 ((cblk 0).view.read (Elt F) XA) f) ∗ cblkP c XA 0))
      ∗ (∃ f, Transfers.Flight countersEmb (c : Thread nD τ) (SemLoc.dma (csm 1).sem) () 32768 iprop(slotP c 1 (landedW c 1 ((cblk 1).view.read (Elt F) XA) f) ∗ cblkP c XA 1))
      ∗ cellP (F := F) c 2 ∗ (∃ f, slotP (F := F) c 2 f)) := by
  unfold ringAt Ring.At
  rw [Ring.bigSep_fin3, Ring.slotAt_of_lt _ _ _ _ 0 0 (by decide), Ring.slotAt_of_lt _ _ _ _ 0 1 (by decide), Ring.slotAt_of_not _ _ _ _ 0 2 (by decide)]
  unfold Ring.inflight flightP landed
  have h0 := homeP_lt c XA XT 0 (by decide)
  have h1 := homeP_lt c XA XT 1 (by decide)
  have r0 := blockRead_lt c XA XT 0 (by decide)
  have r1 := blockRead_lt c XA XT 1 (by decide)
  show iprop(_ ∗ (∃ f, Transfers.Flight countersEmb (c : Thread nD τ) _ () 32768 iprop(slotP c 0 (landedW c 0 (blockRead c XA XT (Ring.bk 49 0)) f) ∗ homeP c XA XT (Ring.bk 49 0)))
    ∗ (∃ f, Transfers.Flight countersEmb (c : Thread nD τ) _ () 32768 iprop(slotP c 1 (landedW c 1 (blockRead c XA XT (Ring.bk 49 1)) f) ∗ homeP c XA XT (Ring.bk 49 1))) ∗ _) = _
  rw [h0, h1, r0, r1]
  rfl

/-- A buffer's contents read through the view of the whole buffer. -/
theorem whole_writes_full (b : Ref sig .tc) (f : b.ty.Contents (Elt F)) (off : Fin b.ty.shape.rank → ℕ) (h0 : ∀ a, off a = 0)
    (inb : ∀ a, off a + b.ty.shape.size a ≤ b.ty.shape.size a) (w : b.ty.shape.Idx → Elt F b.ty.elt) :
    (Memref.whole b).view.writes (Elt F) f [⟨Rect.unit (s := b.ty.shape) off b.ty.shape.size inb, w⟩] = w := by
  have h := writes_full (F := F) (Memref.whole b).view f off h0 inb w
  generalize (Memref.whole b).view.writes (Elt F) f [⟨Rect.unit (s := b.ty.shape) off b.ty.shape.size inb, w⟩] = g at h ⊢
  exact h

/-- The three working buffers, rewritten whole. -/
theorem flat_full (f : Buf (Elt F) (flatM.view.loc (c : Thread nD τ))) (w : S128x2048.Idx → BitVec 32) :
    flatP (F := F) c (flatM.view.writes (Elt F) f [⟨Rect.unit (s := S128x2048) ![0, 0] S128x2048.size inb_S128x2048_S128x2048_0_0, w⟩]) ⊢ flatP (F := F) c w :=
  entails_of_eq (congrArg (flatP (F := F) c) (whole_writes_full (F := F) cc0_scratch1 f ![0, 0] off00 inb_S128x2048_S128x2048_0_0 w))
theorem max_full (f : Buf (Elt F) (maxM.view.loc (c : Thread nD τ))) (w : S128x2048.Idx → F .f32) :
    maxP (F := F) c (maxM.view.writes (Elt F) f [⟨Rect.unit (s := S128x2048) ![0, 0] S128x2048.size inb_S128x2048_S128x2048_0_0, w⟩]) ⊢ maxP (F := F) c w :=
  entails_of_eq (congrArg (maxP (F := F) c) (whole_writes_full (F := F) cc0_scratch2 f ![0, 0] off00 inb_S128x2048_S128x2048_0_0 w))
theorem idx_full (f : Buf (Elt F) (idxM.view.loc (c : Thread nD τ))) (w : S128x2048.Idx → BitVec 32) :
    idxP (F := F) c (idxM.view.writes (Elt F) f [⟨Rect.unit (s := S128x2048) ![0, 0] S128x2048.size inb_S128x2048_S128x2048_0_0, w⟩]) ⊢ idxP (F := F) c w :=
  entails_of_eq (congrArg (idxP (F := F) c) (whole_writes_full (F := F) cc0_scratch3 f ![0, 0] off00 inb_S128x2048_S128x2048_0_0 w))

/-- The running buffers, read whole. -/
theorem max_read (w : S128x2048.Idx → F .f32) :
    View.readAt (Elt F) maxM.view (Rect.unit (s := S128x2048) ![0, 0] S128x2048.size inb_S128x2048_S128x2048_0_0).toLoadRect w = w := by
  funext j
  refine congrArg w (funext fun a => Fin.ext ?_)
  match a with
  | 0 => show 0 + 1 * (j 0).val = (j 0).val; omega
  | 1 => show 0 + 1 * (j 1).val = (j 1).val; omega
theorem idx_read (w : S128x2048.Idx → BitVec 32) :
    View.readAt (Elt F) idxM.view (Rect.unit (s := S128x2048) ![0, 0] S128x2048.size inb_S128x2048_S128x2048_0_0).toLoadRect w = w := by
  funext j
  refine congrArg w (funext fun a => Fin.ext ?_)
  match a with
  | 0 => show 0 + 1 * (j 0).val = (j 0).val; omega
  | 1 => show 0 + 1 * (j 1).val = (j 1).val; omega

/-- The loop's invariant before the first trip, from what the stores and the two copies leave. -/
theorem loop_start (f0 f1 f2) (W : Waits sig Unit) :
    iprop(bigSep (Ring.homeSet (NB := 49) 2 0) (homeP c XA XT)
      ∗ Transfers.Flight countersEmb (c : Thread nD τ) (SemLoc.dma (csm 0).sem) () 32768 iprop(slotP c 0 (landedW c 0 ((cblk 0).view.read (Elt F) XA) f0) ∗ cblkP c XA 0)
      ∗ Transfers.Flight countersEmb (c : Thread nD τ) (SemLoc.dma (csm 1).sem) () 32768 iprop(slotP c 1 (landedW c 1 ((cblk 1).view.read (Elt F) XA) f1) ∗ cblkP c XA 1)
      ∗ cellP (F := F) c 2 ∗ slotP (F := F) c 2 f2 ∗ flatP (F := F) c k0_pay708 ∗ maxP (F := F) c k0_pay709 ∗ idxP (F := F) c k0_pay710 ∗ owes (c : Thread nD τ) 0 W)
      ⊢ loopAt c XA XT 0 := by
  unfold loopAt
  rw [ring_zero, accAt_zero]
  iintro ⟨Hh, Hc0, Hc1, Hc2, Hs2, H4, H5, H6, HW⟩
  isplitl [Hh Hc0 Hc1 Hc2 Hs2]
  · isplitl [Hh]; · iexact Hh
    isplitl [Hc0]; · iexists f0; iexact Hc0
    isplitl [Hc1]; · iexists f1; iexact Hc1
    isplitl [Hc2]; · iexact Hc2
    iexists f2; iexact Hs2
  isplitl [HW]; · iexists _; iexact HW
  isplitl [H4]; · iexact H4
  isplitl [H5]; · iexact H5
  iexact H6

attribute [local irreducible] accAt in
set_option maxHeartbeats 400000 in
theorem bodyRun (gO : Buf (Elt F) (arg2.view.loc (c : Thread nD τ))) (Q : PUnit → sProp 𝕄) :
    iprop((bigSep Finset.univ (homeP c XA XT) ∗ ((∃ f, slotP (F := F) c 0 f) ∗ (∃ f, slotP (F := F) c 1 f) ∗ (∃ f, slotP (F := F) c 2 f))
        ∗ (cellP (F := F) c 0 ∗ cellP (F := F) c 1 ∗ cellP (F := F) c 2) ∗ (∃ f, flatP (F := F) c f) ∗ (∃ f, maxP (F := F) c f) ∗ (∃ f, idxP (F := F) c f)
        ∗ (arg2.view.loc (c : Thread nD τ) ↦[arg2.view.set]{fullShare} gO) ∗ owesE c)
      ∗ ((bigSep Finset.univ (homeP c XA XT) ∗ ((∃ f, slotP (F := F) c 0 f) ∗ (∃ f, slotP (F := F) c 1 f) ∗ (∃ f, slotP (F := F) c 2 f))
        ∗ (cellP (F := F) c 0 ∗ cellP (F := F) c 1 ∗ cellP (F := F) c 2) ∗ (∃ f, flatP (F := F) c f) ∗ (∃ f, maxP (F := F) c f) ∗ (∃ f, idxP (F := F) c f)
        ∗ (∃ g, ⌜arg2.view.read (Elt F) g = k0_pay1 (accAt c XA XT 49).1 (accAt c XA XT 49).2⌝ ∗ arg2.view.loc (c : Thread nD τ) ↦[arg2.view.set]{fullShare} g) ∗ owesE c) -∗ Q ⟨⟩))
      ⊢ wp frame (wpE (defs₀ (F := F)) 𝒱₀ (c : Thread nD τ) none) Set.univ (bodyG arg2 harg2) Q := by
  have hh : bigSep Finset.univ (homeP c XA XT) = iprop(cblkP c XA 0 ∗ cblkP c XA 1 ∗ bigSep (Ring.homeSet (NB := 49) 2 0) (homeP c XA XT)) := by
    have e : (Finset.univ : Finset (Fin 49)) = insert 0 (insert 1 (Ring.homeSet (NB := 49) 2 0)) := by
      ext b; simp only [Finset.mem_univ, Finset.mem_insert, Ring.mem_homeSet, true_iff, Fin.ext_iff]; have := b.isLt; omega
    rw [e, bigSep_insert (by simp [Ring.mem_homeSet, Fin.ext_iff]), bigSep_insert (by simp [Ring.mem_homeSet]),]
    exact congrArg₂ (fun A B : sProp 𝕄 => iprop(A ∗ B ∗ bigSep (Ring.homeSet (NB := 49) 2 0) (homeP c XA XT))) (homeP_lt c XA XT 0 (by decide)) (homeP_lt c XA XT 1 (by decide))
  sl_unfold [bodyG]
  rw [cc0__body_eq_skeleton]
  sl_unfold [cc0__body_skel]
  rw [k0_part72_eq_skeleton]
  sl_unfold [k0_part72_skel]
  iintro ⟨⟨Hh6, ⟨⟨%f0, Hs0⟩, ⟨%f1, Hs1⟩, ⟨%f2, Hs2⟩⟩, ⟨Hc0, Hc1, Hc2⟩, ⟨%f4, H4⟩, ⟨%f5, H5⟩, ⟨%f6, H6⟩, HO, ⟨%W, HW⟩⟩, Hk⟩
  ihave Hh3 := (entails_of_eq hh) $$ Hh6
  icases Hh3 with ⟨Hg0, Hg1, Hh⟩
  sl_exec
  ihave H4' := (flat_full c f4 k0_pay708) $$ H4
  ihave H5' := (max_full c f5 (k0_pay709 (F := F))) $$ H5
  ihave H6' := (idx_full c f6 k0_pay710) $$ H6
  irw [wp_bind]
  sl_for (tripsInv c XA XT arg2 harg2).inv $$ [Hh Hc0 Hc1 Hc2 Hs2 H4' H5' H6' HW]
  case region => exact (tripsInv c XA XT arg2 harg2).step
  · iapply (entails_of_eq (show loopAt c XA XT 0 = (tripsInv c XA XT arg2 harg2).inv 0 () from rfl))
    iapply (loop_start c XA XT f0 f1 f2 W)
    isplitl [Hh]; · iexact Hh
    isplitl [Hc0]; · iexact Hc0
    isplitl [Hc1]; · iexact Hc1
    isplitl [Hc2]; · iexact Hc2
    isplitl [Hs2]; · iexact Hs2
    isplitl [H4']; · iexact H4'
    isplitl [H5']; · iexact H5'
    isplitl [H6']; · iexact H6'
    iexact HW
  iintro %acc HI
  sl_step
  ihave HI2 := (entails_of_eq ((show (tripsInv c XA XT arg2 harg2).inv k0_t1_loop.trips acc = loopAt c XA XT k0_t1_loop.trips from rfl).trans (congrArg (loopAt c XA XT) trips_eq))) $$ HI
  unfold loopAt
  icases HI2 with ⟨HR, ⟨%W2, HW⟩, H4, H5, H6⟩
  ihave HR2 := (Ring.free3_of_At_last (cell := cellP (F := F) c) (slot := fun s f => slotP (F := F) c s f) (home := homeP c XA XT) (flight := flightP c XA XT)) $$ HR
  icases HR2 with ⟨Hh, ⟨Hc0, Hs0⟩, ⟨Hc1, Hs1⟩, ⟨Hc2, Hs2⟩⟩
  sl_exec
  sl_step
  iapply Hk
  isplitl [Hh]; · iexact Hh
  isplitl [Hs0 Hs1 Hs2]
  · isplitl [Hs0]; · iexact Hs0
    isplitl [Hs1]; · iexact Hs1
    iexact Hs2
  isplitl [Hc0 Hc1 Hc2]
  · isplitl [Hc0]; · iexact Hc0
    isplitl [Hc1]; · iexact Hc1
    iexact Hc2
  isplitl [H4]; · iexists _; iexact H4
  isplitl [H5]; · iexists _; iexact H5
  isplitl [H6]; · iexists _; iexact H6
  isplitl [HO]
  · iexists _
    isplitr
    rotate_left
    · iexact HO
    · ipureintro
      refine (writes_full (F := F) arg2.view gO ![0, 0] off00 inb_S128x1_S128x1_0_0 _).trans ?_
      generalize accAt c XA XT 49 = A
      rw [max_read, idx_read]
  iexists _; iexact HW
end Whole
end Cert.Proof.Trip
end
-- ==== Proof.Launch.lean ====
/-
  The launch: the logits split into blocks of columns, the ring into slots, the body's obligation, and the run of the
  whole program with what its result array holds.
-/
module

public import proofs.«01_k».proof.Proof.Whole
public import proofs.«01_k».proof.Proof.Gen.KernelIdeal.Frame

@[expose] public section

set_option maxRecDepth 16384

noncomputable section

namespace Cert.Proof.Trip

open Cert.KernelIdeal Cert.KernelIdeal.Gen Cert.Proof.Strip
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The kernel's own semaphores -/

abbrev osem : Fin 3 → SemLoc sig := fun s => .dma (csm s).sem
theorem ownSemFacts : Pipeline.OwnSemFacts spec0 osem := by decide

omit [FloatOps F] in
theorem ownSems0_eq (c : Dev nD) : (Pipeline.ownSems0 (Ix := Unit) (Name := ℕ) (U := UU nD τ) (Lvl := ℕ) (Val := Elt F) (τ := τ) osem c : sProp 𝕄)
    = iprop(cellP c 0 ∗ cellP c 1 ∗ cellP c 2) := by
  unfold Pipeline.ownSems0; rw [Ring.bigSep_fin3]

/-! ## The logits as blocks of columns -/

/-- The columns that share a quotient by 2048: block `b` below 48, the rest at 48. -/
def colSet (b : Fin 49) : Finset S128x100000.Idx := Finset.univ.filter fun y => (y 1).val / 2048 = b.val
theorem mem_colSet (b : Fin 49) (y : S128x100000.Idx) : y ∈ colSet b ↔ (y 1).val / 2048 = b.val := by
  unfold colSet; rw [Finset.mem_filter]; exact ⟨fun h => h.2, fun h => ⟨Finset.mem_univ _, h⟩⟩
theorem colSet_disjoint : ∀ b b' : Fin 49, b ≠ b' → Disjoint (colSet b) (colSet b') := by
  intro b b' hne; rw [Finset.disjoint_left]; intro y hy hy'; rw [mem_colSet] at hy hy'; exact hne (Fin.ext (hy.symm.trans hy'))
theorem colSet_cover : (Finset.univ : Finset (Fin 49)).biUnion colSet = Finset.univ := by
  ext y; simp only [Finset.mem_biUnion, Finset.mem_univ, true_and, iff_true]
  have h : (y 1).val < 100000 := (y 1).isLt
  exact ⟨⟨(y 1).val / 2048, by omega⟩, by rw [mem_colSet]⟩
theorem cblk_set (b : Fin 48) : (cblk b : Memref sig .tc .hbm _ _).view.set = colSet ⟨b.val, by omega⟩ := by
  refine (show _ = (Rect.unit (s := S128x100000) (colOff b) S128x2048.size (colOff_inb b)).set from View.set_slice_whole _ _).trans ?_
  ext y
  rw [mem_colSet, Rect.mem_set_unit]
  have h0 : (y 0).val < 128 := (y 0).isLt
  constructor
  · intro H
    have h1 : 2048 * b.val ≤ (y 1).val ∧ (y 1).val < 2048 * b.val + 2048 := H 1
    show (y 1).val / 2048 = b.val
    omega
  · intro H i
    have H' : (y 1).val / 2048 = b.val := H
    fin_cases i
    · show 0 ≤ (y 0).val ∧ (y 0).val < 0 + 128; omega
    · show 2048 * b.val ≤ (y 1).val ∧ (y 1).val < 2048 * b.val + 2048; omega

section Split
variable (c : Dev nD) (XA : Buf (Elt F) (aM.view.loc (c : Thread nD τ))) (XT : Buf (Elt F) (tM.view.loc (c : Thread nD τ)))

/-- The columns that no block of the logits covers: no transfer reads them. -/
abbrev leftP : sProp 𝕄 := ((c : Thread nD τ).loc main_arg0) ↦[colSet 48]{fullShare} XA

/-- The logits and their last columns, as blocks at home. -/
theorem homes_eq : iprop((((c : Thread nD τ).loc main_arg0) ↦{fullShare} XA) ∗ (((c : Thread nD τ).loc main_v0) ↦{fullShare} XT))
    = (iprop(leftP c XA ∗ bigSep Finset.univ (homeP c XA XT)) : sProp 𝕄) := by
  have e : (Finset.univ : Finset (Fin 49)) = insert 48 (Finset.univ.filter fun b : Fin 49 => b.val < 48) := by
    ext b; simp only [Finset.mem_univ, Finset.mem_insert, Finset.mem_filter, true_and, true_iff, Fin.ext_iff]
    have := b.isLt
    show b.val = 48 ∨ b.val < 48
    omega
  have hn : (48 : Fin 49) ∉ Finset.univ.filter fun b : Fin 49 => b.val < 48 := by
    rw [Finset.mem_filter]; rintro ⟨-, h⟩; exact absurd h (by decide)
  have hb : bigSep (Finset.univ.filter fun b : Fin 49 => b.val < 48) (homeP c XA XT)
      = bigSep (Finset.univ.filter fun b : Fin 49 => b.val < 48) (fun b => (((c : Thread nD τ).loc main_arg0) ↦[colSet b]{fullShare} XA : sProp 𝕄)) := by
    refine bigSep_congr fun b hb => ?_
    have h : b.val < 48 := (Finset.mem_filter.1 hb).2
    unfold homeP
    rw [dif_pos h]
    exact congrArg (fun S => (((c : Thread nD τ).loc main_arg0) ↦[S]{fullShare} XA : sProp 𝕄)) (cblk_set ⟨b.val, h⟩)
  have ht : homeP c XA XT 48 = (((c : Thread nD τ).loc main_v0) ↦{fullShare} XT : sProp 𝕄) :=
    (dif_neg (by decide)).trans (congrArg (fun S => (((c : Thread nD τ).loc main_v0) ↦[S]{fullShare} XT : sProp 𝕄)) (show tM.view.set = Finset.univ from View.set_whole _))
  rw [Ring.pointsTo_blocks (ℓ := (c : Thread nD τ).loc main_arg0) colSet colSet_disjoint colSet_cover, e, bigSep_insert hn, bigSep_insert hn, hb, ht]
  have sw : ∀ A B C : sProp 𝕄, iprop((A ∗ B) ∗ C) = iprop(A ∗ C ∗ B) := fun A B C =>
    (equiv_iff.mp ⟨Idealize.SL.BI.sep_assoc, Idealize.SL.BI.sep_assoc'⟩).trans
      (congrArg (fun P : sProp 𝕄 => iprop(A ∗ P)) (equiv_iff.mp ⟨Idealize.SL.BI.sep_comm, Idealize.SL.BI.sep_comm⟩))
  exact sw _ _ _

end Split

theorem slotSet_disjoint : ∀ s s' : Fin 3, s ≠ s' → Disjoint (slotSet s) (slotSet s') := by
  intro s s' hne; rw [Finset.disjoint_left]; intro y hy hy'; rw [mem_slotSet] at hy hy'; exact hne (Fin.ext (hy.symm.trans hy'))
theorem slotSet_cover : (Finset.univ : Finset (Fin 3)).biUnion slotSet = Finset.univ := by
  ext y; simp only [Finset.mem_biUnion, Finset.mem_univ, true_and, iff_true]
  exact ⟨⟨(y 0).val, (y 0).isLt⟩, by rw [mem_slotSet]⟩

omit [FloatOps F] in
theorem slotP_eq (c : Dev nD) (s : Fin 3) (f) : slotP c s f = (((c : Thread nD τ).loc cc0_scratch0) ↦[slotSet s]{fullShare} f : sProp 𝕄) :=
  congrArg (fun S => (_ ↦[S]{fullShare} f : sProp 𝕄)) (rslot_set s)
/-- The ring whole is its three slots, -/
theorem ring_split (c : Dev nD) :
    iprop(∃ f : Buf (Elt F) ((c : Thread nD τ).loc cc0_scratch0), ((c : Thread nD τ).loc cc0_scratch0) ↦{fullShare} f)
      ⊢ (iprop((∃ f, slotP c 0 f) ∗ (∃ f, slotP c 1 f) ∗ ∃ f, slotP c 2 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) slotSet slotSet_disjoint slotSet_cover f).trans (Ring.bigSep_fin3 _))) $$ H
  icases H2 with ⟨H0, H1, H2⟩
  isplitl [H0]
  · iexists f; iapply (entails_of_eq (slotP_eq c 0 f).symm); iexact H0
  isplitl [H1]
  · iexists f; iapply (entails_of_eq (slotP_eq c 1 f).symm); iexact H1
  iexists f; iapply (entails_of_eq (slotP_eq c 2 f).symm); iexact H2
/-- and back. -/
theorem ring_join (c : Dev nD) :
    iprop((∃ f, slotP c 0 f) ∗ (∃ f, slotP c 1 f) ∗ ∃ f, slotP c 2 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩⟩
  iapply (Ring.pointsTo_blocks_join_exists (ℓ := (c : Thread nD τ).loc cc0_scratch0) slotSet slotSet_disjoint slotSet_cover f0)
  irw [Ring.bigSep_fin3]
  isplitl [H0]
  · iexists f0; iapply (entails_of_eq (slotP_eq c 0 f0)); iexact H0
  isplitl [H1]
  · iexists f1; iapply (entails_of_eq (slotP_eq c 1 f1)); iexact H1
  iexists f2; iapply (entails_of_eq (slotP_eq c 2 f2)); iexact H2

/-! ## The proof data -/

variable (m : (ℓ : Loc nD τ sig) → Buf (Elt F) ℓ) (ρ : Dev nD → PrngReg)

/-- The region invariant, the same before and after the one point. -/
def Φ (c : Dev nD) : sProp 𝕄 :=
  iprop(leftP c (V m c main_arg0) ∗ bigSep Finset.univ (homeP c (V m c main_arg0) (V m c main_v0))
    ∗ ((∃ f, slotP (F := F) c 0 f) ∗ (∃ f, slotP (F := F) c 1 f) ∗ (∃ f, slotP (F := F) c 2 f))
    ∗ (cellP (F := F) c 0 ∗ cellP (F := F) c 1 ∗ cellP (F := F) c 2) ∗ (∃ f, flatP (F := F) c f) ∗ (∃ f, maxP (F := F) c f) ∗ (∃ f, idxP (F := F) c f)
    ∗ (∃ r, prngReg c r))

/-- The result, as the body leaves it. -/
def outAt (c : Dev nD) : S128x1.Idx → BitVec 32 :=
  k0_pay1 (accAt c (V m c main_arg0) (V m c main_v0) 49).1 (accAt c (V m c main_arg0) (V m c main_v0) 49).2

def dats (_ : Fin 1) (c : Dev nD) : Dat τ (Elt F) Unit ℕ (UU nD τ) ℕ cfg0 c where
  A w := V m c (Pipeline.arrRef spec0 w)
  after w t := match w with
    | ⟨0, _⟩ => outAt m c
  Φ _ := Φ m c
  q _ := fullShare
  owed _ := 0

theorem after_w0 (c : Dev nD) (t : Fin cfg0.N) : (dats m 0 c).after 0 t = outAt m c := by dsimp only [dats]

theorem defs_tc : (defs₀ (F := F)) .tc cfg0.body = fun a => bodyG (win0_0.stage (a.2 0)) (hstage0_0 0) := rfl
theorem prog_eq (t : Fin cfg0.N) : (defs₀ (F := F)) .tc cfg0.body (cfg0.bodyArgs t (cfg0.slots t)) = bodyG (st0_0 t) (hstage0_0 0) :=
  (congrFun defs_tc _).trans rfl

attribute [local irreducible] accAt in
set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [after_w0]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨Hl, Hh, Hs, Hc, H4, H5, H6, Hr⟩, ⟨%W, -, HW⟩, ⟨%d1, %gO, -, HO⟩⟩
  sl_rw [prog_eq t]
  iapply (bodyRun c (V m c main_arg0) (V m c main_v0) (st0_0 t) (hstage0_0 0) gO)
  isplitl [Hh Hs Hc H4 H5 H6 HO HW]
  · isplitl [Hh]; · iexact Hh
    isplitl [Hs]; · iexact Hs
    isplitl [Hc]; · iexact Hc
    isplitl [H4]; · iexact H4
    isplitl [H5]; · iexact H5
    isplitl [H6]; · iexact H6
    isplitl [HO]; · iexact HO
    iexists _; iexact HW
  · iintro ⟨Hh, Hs, Hc, H4, H5, H6, ⟨%g, %hg, HO⟩, ⟨%W', HW⟩⟩
    isplitl [Hl Hh Hs Hc H4 H5 H6 Hr]
    · isplitl [Hl]; · iexact Hl
      isplitl [Hh]; · iexact Hh
      isplitl [Hs]; · iexact Hs
      isplitl [Hc]; · iexact Hc
      isplitl [H4]; · iexact H4
      isplitl [H5]; · iexact H5
      isplitl [H6]; · iexact H6
      iexact Hr
    isplitl [HW]
    · iexists W'; isplitr; · ipureintro; exact fun _ _ => Or.inl trivial
      iexact HW
    iexists g; isplitr; · ipureintro; exact hg
    iexact HO

/-! ## The run -/

/-- The operands that the kernel moves itself. -/
abbrev H0 : Finset (Ref sig .tc) := {main_arg0, main_v0}

theorem tail_sub : ∀ ops ∈ ([hostOps1] : List (List (HloOp τ sig (Elt F)))), ∀ op ∈ ops, op.bufs ⊆ Pipeline.tailRefsBut sig Pipeline.Prefetch.none spec0 H0 := by
  intro ops hops op hop
  simp only [List.mem_cons, List.mem_nil_iff, or_false] at hops
  rcases hops with rfl
  have hsub := (List.forall_iff_forall_mem.mp hostOps1_sub) op hop
  simp only [hostOps1, List.mem_cons, List.mem_nil_iff, or_false] at hop
  rcases hop with rfl
  refine Pipeline.sub_tailRefsBut _ _ _ _ hsub (fun k => k.elim0) ?_
  intro b hb
  rw [StableHlo.reshape_bufs, Finset.mem_insert, Finset.mem_singleton, not_or]
  rcases Finset.mem_insert.1 hb with rfl | hb
  · exact ⟨StableHlo.devRef_ne_of_ne (by decide), StableHlo.devRef_ne_of_ne (by decide)⟩
  · rw [Finset.mem_singleton.1 hb]
    exact ⟨StableHlo.devRef_ne_of_ne (by decide), StableHlo.devRef_ne_of_ne (by decide)⟩

theorem ΦD_split (c : Dev nD) : Pipeline.ΦD (Val := Elt F) osem spec0 H0 (fun c b => V m c b) c
    = (iprop(Pipeline.scopedRest spec0 c ∗ (∃ r, prngReg c r) ∗ Pipeline.ownSems0 osem c
      ∗ (((c : Thread nD τ).loc main_arg0) ↦{fullShare} V m c main_arg0) ∗ (((c : Thread nD τ).loc main_v0) ↦{fullShare} V m c main_v0)) : sProp 𝕄) := by
  rw [Pipeline.ΦD_eq, show (H0 : Finset (Ref sig .tc)) = insert main_arg0 {main_v0} from rfl, bigSep_insert (by decide), bigSep_singleton]
  rfl

theorem run_main (Q' : PUnit × MemSt nD τ sig (Elt F) → Prop)
    (hQ' : ∀ r, Pipeline.FramePost cfgs (dats m) 0 (Pipeline.afterTail₀ cfgs (dats m) 0 (V0 m) [hostOps1]) r ∧ r.2.sem = (fun _ => 0) → Q' r) :
    θ_run defs (onTc (τ := τ) (main (F := F))) (s₀ m ρ) Q' :=
  Pipeline.θ_run_frame_dma_around cfgs (dats m) 0 launch0 osem defs₀ 𝒱₀ ownSemFacts H0 (by decide) m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := Pipeline.hmain_around cfgs 0 defs₀ 𝒱₀ m main [hostOps0] [hostOps1] (by simp only [List.Forall]; exact hostOps0_sub)
      (by simp only [List.Forall]; exact hostOps0_fresh) main_chain)
    (hA := fun _ _ => rfl)
    (hin := fun c => by
      rw [ΦD_split, scopedRest0_eq, ownSems0_eq, show (dats m 0 c).Φ 0 = Φ m c from rfl]
      unfold Φ
      iintro ⟨⟨Hr, H4, H5, H6⟩, Hp, Hc, Ha⟩
      ihave Hs := (ring_split c) $$ Hr
      ihave Hh := (entails_of_eq (homes_eq c (V m c main_arg0) (V m c main_v0))) $$ Ha
      icases Hh with ⟨Hl, Hh⟩
      isplitl [Hl]; · iexact Hl
      isplitl [Hh]; · iexact Hh
      isplitl [Hs]; · iexact Hs
      isplitl [Hc]; · iexact Hc
      isplitl [H4]; · iexact H4
      isplitl [H5]; · iexact H5
      isplitl [H6]; · iexact H6
      iexact Hp)
    (hout := fun c => by
      rw [ΦD_split, scopedRest0_eq, ownSems0_eq, show (dats m 0 c).Φ (Fin.last cfg0.N) = Φ m c from rfl]
      unfold Φ
      iintro ⟨Hl, Hh, Hs, Hc, H4, H5, H6, Hp⟩
      isplitl [Hs H4 H5 H6]
      · isplitl [Hs]; · iapply (ring_join c); iexact Hs
        isplitl [H4]; · iexact H4
        isplitl [H5]; · iexact H5
        iexact H6
      isplitl [Hp]; · iexact Hp
      isplitl [Hc]; · iexact Hc
      iapply (entails_of_eq (homes_eq c (V m c main_arg0) (V m c main_v0)).symm)
      isplitl [Hl]; · iexact Hl
      iexact Hh)
    Q' hQ'

end Cert.Proof.Trip
end
-- ==== Proof.KernelRun.lean ====
/- The kernel's run, read at the buffers the claims speak of: its argument is unchanged, every counter
   is back at zero, and its result is the column of indices that the body leaves. -/
module

public import proofs.«01_k».proof.Proof.Launch
public import Idealize.ShloMosaic.Lib.Claim
public import Idealize.ShloMosaic.Lib.Pipeline.ValueKit
public import Idealize.ShloMosaic.Lib.StableHlo.RunRead

@[expose] public section

noncomputable section

namespace Cert.Proof.Trip

open Cert.KernelIdeal Cert.KernelIdeal.Gen Cert.Proof.Strip
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

/-- No host operation after the region writes the argument. -/
theorem tail_arg (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The one point writes the whole result array back. -/
theorem arr_out (c : Dev nD) : (dats m 0 c).arrAt 0 cfg0.N = outAt m c := by
  refine (dats m 0 c).arrAt_eq_of_after_last 0 t0_0 (by decide +kernel) _ fun j => ?_
  blk_simp
  rw [after_w0]

/-- The returned vector is the written column, reshaped. -/
theorem tail_out (c : Dev nD) :
    Pipeline.afterTail₀ cfgs (dats m) 0 (V0 m) [hostOps1] c main_v2 = shapeCast S128 (outAt m c) shapeCasts_S128x1_S128 := by
  unfold Pipeline.afterTail₀
  simp only [hostOps1, List.flatten_cons, List.flatten_nil, List.append_nil, StableHlo.after_cons, StableHlo.after_nil]
  rw [StableHlo.reshape_result]
  have h := Pipeline.withArrays_arr (τ := τ) spec0 (by decide) c (V0 m c) (fun w => (dats m 0 c).arrAt w cfg0.N) 0
  rw [arr_out] at h
  refine (congrArg (fun x => shapeCast S128 x shapeCasts_S128x1_S128) h)

/-- The run: the argument unchanged, the result named, the counters at zero. -/
theorem run_out : θ_run defs (onTc (τ := τ) (main (F := F))) ⟨m, fun _ => 0, ρ⟩ (fun r => (∀ c : Dev nD,
      r.2.mem ((c.tc : Thread nD τ).loc main_v2) = shapeCast S128 (outAt m c) shapeCasts_S128x1_S128
      ∧ r.2.mem ((c.tc : Thread nD τ).loc main_arg0) = m ((c.tc : Thread nD τ).loc main_arg0))
      ∧ r.2.sem = fun _ => 0) :=
  run_main m ρ _ fun r h => ⟨fun c =>
    ⟨((h.1 c).2 main_v2 (Pipeline.mem_restRefs_of main_v2 (by decide) (by decide))).trans (tail_out m c),
      ((h.1 c).2 main_arg0 (Pipeline.mem_restRefs_of main_arg0 (by decide) (by decide))).trans (tail_arg m c)⟩, h.2⟩

end Cert.Proof.Trip
end
-- ==== Proof.RefRun.lean ====
/- The reference is a straight line of array operations.  Here its operations are read off the
   printed program, in order, and the run to the contents that they compute is stated. -/
module

public import proofs.«01_k».proof.Proof.Gen.ReferenceIdeal
public import proofs.«01_k».proof.Defs
public import Idealize.ShloMosaic.Lib.Claim
public import Idealize.ShloMosaic.Lib.StableHlo.RunHlo
public import Idealize.ShloMosaic.Lib.StableHlo.RunRead

@[expose] public section
noncomputable section

namespace Cert.Proof.Ref

open Cert.ReferenceIdeal Cert.ReferenceIdeal.Gen
open Idealize.ShloMosaic Idealize.SL.Sem Idealize.ShloMosaic.StableHlo

variable {F : FTy → Type} [FloatOps F]

/-! ## Straight lines put one after the other -/

section Line
variable {nD : Nat} {τ : Topo} {sig : RefSig} {Val : EltTy → Type} {Λ : Labels}

/-- The contents after `n` operations, and then the next `k`. -/
theorem upto_add (ops : List (HloOp τ sig Val)) (V : Valuation τ sig Val) (n k : ℕ) :
    upto ops V (n + k) = after ((ops.drop n).take k) (upto ops V n) := by
  unfold upto
  rw [List.take_add]
  generalize ops.take n = l₁
  generalize (ops.drop n).take k = l₂
  induction l₁ generalizing V with
  | nil => rfl
  | cons op l ih => exact ih _

end Line

/-! ## The operations -/

set_option maxHeartbeats 4000000

/-- Every operation of the program. -/
def mainOps (d : Dev nD) : { ops : List (HloOp τ sig (Elt F)) // IsSeq (main (F := F) d) ops } := by
  apply Subtype.mk
  hlo_seq

/-- Every operation touches arrays only. -/
theorem mainOps_bufs (d : Dev nD) : (mainOps (F := F) d).1.Forall fun op => op.bufs ⊆ tcRefs τ sig := by
  unfold mainOps
  dsimp only
  simp

/-- No operation leaves its result open. -/
theorem mainOps_fresh (d : Dev nD) : ∀ op ∈ (mainOps (F := F) d).1, op.fresh = ∅ := by
  unfold mainOps
  dsimp only
  intro _ h
  (repeat (cases h with | head => rfl | tail _ h => ?_))
  exact nomatch h

/-! ## The run -/

/-- From any launch the program runs to its operations' contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = after (mainOps (F := F) d).1 (launchContents m d) (Proc.devRef .tc b) :=
  run_seq (by decide) (by decide) _ _ (fun d => (mainOps d).1) (fun d => (mainOps d).2) mainOps_bufs m ρ mainOps_fresh

/-- No operation writes the argument. -/
theorem arg_kept (m : (ℓ : Loc nD τ sig) → Buf (Elt F) ℓ) (d : Dev nD) :
    after (mainOps (F := F) d).1 (launchContents m d) (Proc.devRef .tc main_arg0) = m ((d.tc : Thread nD τ).loc main_arg0) := by
  after_reads_simp

end Cert.Proof.Ref
end
-- ==== Proof.Blocks.lean ====
/-
  What the kernel's trips read: the logits of each block by their columns, and the word of each element.
-/
module

public import proofs.«01_k».proof.Proof.KernelRun
public import Idealize.ShloMosaic.Lib.Pointwise
public import Idealize.ShloMosaic.Lib.StableHlo.ReadAt

@[expose] public section

noncomputable section

namespace Cert.Proof.Trip

open Cert.KernelIdeal Cert.KernelIdeal.Gen Cert.Proof.Strip
open Idealize.ShloMosaic Idealize.ShloMosaic.TcCoe Idealize.ShloMosaic.Tactic
open Idealize.SL Idealize.SL.Sem
open Idealize.ShloMosaic.Rounds

variable {F : FTy → Type} [FloatOps F]

/-! ## Columns -/

/-- The column that lane `l` sees in trip `k`: the last block starts where it ends with the array. -/
def colOf (k l : ℕ) : ℕ := min (2048 * k) 97952 + l

theorem colOf_lt (k l : ℕ) (h : l < 2048) : colOf k l < 100000 := by unfold colOf; omega
theorem colOf_mono (l : ℕ) {k k' : ℕ} (h : k ≤ k') : colOf k l ≤ colOf k' l := by unfold colOf; omega
/-- Every column is seen. -/
theorem colOf_surj (n : ℕ) (h : n < 100000) : ∃ k < 49, ∃ l < 2048, colOf k l = n := by
  unfold colOf
  by_cases h' : n < 98304
  · exact ⟨min (n / 2048) 47, by omega, n - 2048 * (n / 2048), by omega, by omega⟩
  · exact ⟨48, by omega, n - 97952, by omega, by omega⟩

/-- The base of a trip's columns, as a word. -/
theorem base_eq : ∀ k : Fin k0_t1_loop.trips, baseW k = BitVec.ofNat 32 (min (2048 * k.val) 97952) := by decide +kernel

/-! ## The words -/

/-- An element of the array, by row and column. -/
abbrev elt (r : Fin 128) (l : Fin 2048) (k : ℕ) : S128x100000.Idx := ValueIdx.ix2 r ⟨colOf k l.val, colOf_lt k l.val l.isLt⟩

/-- The seeded flat index of an element. -/
def wordOf (r n : ℕ) : BitVec 32 := BitVec.ofNat 32 (100000 * r + n + 42)

theorem flat_at (r : Fin 128) (l : Fin 2048) : k0_pay708 (ValueIdx.ix2 r l) = wordOf r.val l.val := by
  unfold k0_pay708
  pointwise
  show BitVec.ofNat 32 r.val * 100000#32 + BitVec.ofNat 32 l.val + 42#32 = BitVec.ofNat 32 (100000 * r.val + l.val + 42)
  apply BitVec.eq_of_toNat_eq
  simp only [BitVec.toNat_add, BitVec.toNat_mul, BitVec.toNat_ofNat]
  have := r.isLt
  have := l.isLt
  omega

theorem word_at (k : Fin k0_t1_loop.trips) (r : Fin 128) (l : Fin 2048) :
    IntOp.addi (k0_pay708 (ValueIdx.ix2 r l)) (baseW k) = wordOf r.val (colOf k.val l.val) := by
  rw [flat_at, base_eq]
  unfold IntOp.addi wordOf colOf
  rw [← BitVec.ofNat_add]
  congr 1
  omega

/-! ## The logits -/

section Reads
variable (c : Dev nD) (XA : Buf (Elt F) (aM.view.loc (c : Thread nD τ))) (XT : Buf (Elt F) (tM.view.loc (c : Thread nD τ)))

theorem cblk_at (b : Fin 48) (r : Fin 128) (l : Fin 2048) :
    (cblk b).view.read (Elt F) XA (ValueIdx.ix2 r l) = XA (elt r l b.val) := by
  have e : (cblk b).view.read (Elt F) XA (ValueIdx.ix2 r l)
      = XA ((Rect.unit (s := S128x100000) (colOff b) S128x2048.size (colOff_inb b)).emb (ValueIdx.ix2 r l)) := rfl
  rw [e]
  have := b.isLt
  refine congrArg (fun i : S128x100000.Idx => XA i) (funext fun a => Fin.ext ?_)
  match a with
  | 0 => show 0 + 1 * r.val = r.val; omega
  | 1 => show 2048 * b.val + 1 * l.val = colOf b.val l.val; unfold colOf; omega

theorem block_at (hT : ∀ (r : Fin 128) (l : Fin 2048), XT (ValueIdx.ix2 r l) = XA (elt r l 48)) (k : ℕ) (hk : k < 49)
    (r : Fin 128) (l : Fin 2048) : blockRead c XA XT (Ring.bk 49 k) (ValueIdx.ix2 r l) = XA (elt r l k) := by
  by_cases h : k < 48
  · rw [blockRead_lt c XA XT k h]
    exact cblk_at c XA ⟨k, h⟩ r l
  · obtain rfl : k = 48 := by omega
    rw [blockRead_last c XA XT 48 rfl]
    exact hT r l

end Reads

/-- The array of the last columns is cut from the logits. -/
theorem tail_cut (m : (ℓ : Loc nD τ sig) → Buf (Elt F) ℓ) (c : Dev nD) (r : Fin 128) (l : Fin 2048) :
    V m c main_v0 (ValueIdx.ix2 r l) = V m c main_arg0 (elt r l 48) := by
  rw [V_main_arg0]
  unfold V
  after_reads_at
  rfl

end Cert.Proof.Trip
end
-- ==== Proof.RefStart.lean ====
/-
  The first operations of the reference: the key's two words and the flat index of every element.
-/
module

public import proofs.«01_k».proof.Proof.RefRun
public import Idealize.ShloMosaic.Lib.StableHlo.ReadAt
public import Idealize.ShloMosaic.Lib.Pointwise

@[expose] public section
set_option maxRecDepth 16384
noncomputable section

namespace Cert.Proof.Ref

open Cert.ReferenceIdeal Cert.ReferenceIdeal.Gen
open Idealize.ShloMosaic Idealize.SL.Sem Idealize.ShloMosaic.StableHlo

variable {F : FTy → Type} [FloatOps F]
variable (d : Dev nD) (V : Valuation τ sig (Elt F)) (i : S128x100000.Idx)

/-- The word the key starts with: the seed's high half. -/
theorem hi_word : upto ((mainOps (F := F) d).1.take 36) V 9 (Proc.devRef .tc main_v2) (ValueIdx.ix1 0) = 0#32 := by
  unfold upto
  after_reads_at
  rfl
/-- The word the key ends with: the seed's low half. -/
theorem lo_word : upto ((mainOps (F := F) d).1.take 36) V 9 (Proc.devRef .tc main_v5) (ValueIdx.ix1 0) = 42#32 := by
  unfold upto
  after_reads_at
  show IntOp.andi 42#32 4294967295#32 = 42#32
  decide

/-- The first key word is zero. -/
theorem start_key0 : after ((mainOps (F := F) d).1.take 36) V (Proc.devRef .tc main_v8) ValueIdx.ix0 = 0#32 := by
  after_reads_at
  exact hi_word d V
/-- The second is the seed. -/
theorem start_key1 : after ((mainOps (F := F) d).1.take 36) V (Proc.devRef .tc main_v10) ValueIdx.ix0 = 42#32 := by
  after_reads_at
  exact lo_word d V
/-- The third is made of the two. -/
theorem start_key2 : after ((mainOps (F := F) d).1.take 36) V (Proc.devRef .tc main_call0_v1) ValueIdx.ix0 = 466689008#32 := by
  after_reads_at
  refine (congrArg₂ (fun a b => IntOp.xori (IntOp.xori a b) 466688986#32) (hi_word d V) (lo_word d V)).trans ?_
  decide
/-- No operation writes the logits. -/
theorem start_arg : after ((mainOps (F := F) d).1.take 36) V (Proc.devRef .tc main_arg0) = V (Proc.devRef .tc main_arg0) := by
  after_reads_simp

/-- The flat index of an element. -/
def flat (i : S128x100000.Idx) : BitVec 64 :=
  IntOp.addi (IntOp.muli 100000#64 (BitVec.ofNat 64 (i 0))) (IntOp.muli 1#64 (BitVec.ofNat 64 (i 1)))

theorem flat_toNat : (flat i).toNat = 100000 * (i 0).val + (i 1).val := by
  have h0 : (i 0).val < 128 := (i 0).isLt
  have h1 : (i 1).val < 100000 := (i 1).isLt
  unfold flat IntOp.addi IntOp.muli
  simp only [BitVec.toNat_add, BitVec.toNat_mul, BitVec.toNat_ofNat]
  omega

/-- Its low word. -/
theorem flat_lo : BitVec.setWidth 32 (flat i) = BitVec.ofNat 32 (100000 * (i 0).val + (i 1).val) := by
  apply BitVec.eq_of_toNat_eq
  rw [BitVec.toNat_setWidth, flat_toNat, BitVec.toNat_ofNat]

/-- Its high word is zero. -/
theorem flat_hi : BitVec.setWidth 32 (IntOp.shrui .host (flat i) 32#64) = 0#32 := by
  have h0 : (i 0).val < 128 := (i 0).isLt
  have h1 : (i 1).val < 100000 := (i 1).isLt
  unfold IntOp.shrui
  rw [if_pos (by decide)]
  apply BitVec.eq_of_toNat_eq
  rw [BitVec.toNat_setWidth]
  rw [show (flat i >>> 32#64).toNat = (flat i).toNat >>> 32 from rfl, flat_toNat, Nat.shiftRight_eq_div_pow]
  rw [Nat.div_eq_of_lt (by omega)]
  rfl

/-- The word that is hashed: the flat index and the seed. -/
def seeded (i : S128x100000.Idx) : BitVec 32 := BitVec.ofNat 32 (100000 * (i 0).val + (i 1).val + 42)

theorem start_x1 : after ((mainOps (F := F) d).1.take 36) V (Proc.devRef .tc main_call0_v5) i = seeded i := by
  after_reads_at
  refine (congrArg₂ (fun a b => IntOp.addi a b) (flat_lo i) (lo_word d V)).trans ?_
  unfold IntOp.addi seeded
  exact (BitVec.ofNat_add _ 42).symm
theorem start_x0 : after ((mainOps (F := F) d).1.take 36) V (Proc.devRef .tc main_call0_v6) i = seeded i := by
  after_reads_at
  refine (congrArg₂ (fun p q => IntOp.addi p q) (congrArg₂ (fun a b => IntOp.addi a b) (flat_hi i) (hi_word d V))
    (congrArg₂ (fun a b => IntOp.addi a b) (flat_lo i) (lo_word d V))).trans ?_
  unfold IntOp.addi seeded
  rw [BitVec.zero_add, BitVec.zero_add]
  exact (BitVec.ofNat_add _ 42).symm

end Cert.Proof.Ref
end
-- ==== Proof.RefHash.lean ====
/-
  The hash the reference computes, read element by element: the operations of the hash are taken in
  six windows, the keyed start and five groups of four rounds, and each window is one word-level step.
-/
module

public import proofs.«01_k».proof.Proof.RefRun
public import proofs.«01_k».proof.Proof.Strips
public import Idealize.ShloMosaic.Lib.StableHlo.ReadAt

@[expose] public section
set_option maxRecDepth 16384
noncomputable section

namespace Cert.Proof.Ref

open Cert.ReferenceIdeal Cert.ReferenceIdeal.Gen
open Idealize.ShloMosaic Idealize.SL.Sem Idealize.ShloMosaic.StableHlo

variable {F : FTy → Type} [FloatOps F]

/-- A word rotated by the reference's two shifts. -/
def rotH (x a b : BitVec 32) : BitVec 32 := IntOp.ori (IntOp.shli .host x a) (IntOp.shrui .host x b)

/-- Four rounds, and then the keys `ka`, `kb` and the counter `kc` added. -/
def grp (a₁ b₁ a₂ b₂ a₃ b₃ a₄ b₄ kc ka kb x0 x1 : BitVec 32) : BitVec 32 × BitVec 32 :=
  have x1 := IntOp.xori x0 (rotH x1 a₁ b₁)
  have x0 := IntOp.addi x0 x1
  have x1 := IntOp.xori x0 (rotH x1 a₂ b₂)
  have x0 := IntOp.addi x0 x1
  have x1 := IntOp.xori x0 (rotH x1 a₃ b₃)
  have x0 := IntOp.addi x0 x1
  have x1 := IntOp.xori x0 (rotH x1 a₄ b₄)
  have x0 := IntOp.addi x0 ka
  have x1 := IntOp.addi (IntOp.addi x1 kb) kc
  (x0, x1)

/-- The first, third and fifth group's rotations. -/
abbrev grpA := grp 13#32 19#32 15#32 17#32 26#32 6#32 6#32 26#32
/-- The second and fourth group's rotations. -/
abbrev grpB := grp 17#32 15#32 29#32 3#32 16#32 16#32 24#32 8#32

/-- The next `n` operations from the `k`-th on. -/
abbrev win (d : Dev nD) (k n : ℕ) : List (HloOp τ sig (Elt F)) := ((mainOps (F := F) d).1.drop k).take n

/-- The three key words and the logits. -/
structure Keys (V W : Valuation τ sig (Elt F)) : Prop where
  k0 : W (Proc.devRef .tc main_v8) = V (Proc.devRef .tc main_v8)
  k1 : W (Proc.devRef .tc main_v10) = V (Proc.devRef .tc main_v10)
  k2 : W (Proc.devRef .tc main_call0_v1) = V (Proc.devRef .tc main_call0_v1)
  x : W (Proc.devRef .tc main_arg0) = V (Proc.devRef .tc main_arg0)

/-! ## The windows leave the keys -/

theorem keys1 (d : Dev nD) (V : Valuation τ sig (Elt F)) : Keys V (after (win d 36 43) V) := by
  constructor <;> after_reads_simp
theorem keys2 (d : Dev nD) (V : Valuation τ sig (Elt F)) : Keys V (after (win d 79 43) V) := by
  constructor <;> after_reads_simp
theorem keys3 (d : Dev nD) (V : Valuation τ sig (Elt F)) : Keys V (after (win d 122 43) V) := by
  constructor <;> after_reads_simp
theorem keys4 (d : Dev nD) (V : Valuation τ sig (Elt F)) : Keys V (after (win d 165 43) V) := by
  constructor <;> after_reads_simp

/-! ## The windows' words -/

section Words
variable (d : Dev nD) (V : Valuation τ sig (Elt F)) (i : S128x100000.Idx)

/-- The keys, as words. -/
abbrev key0 : BitVec 32 := V (Proc.devRef .tc main_v8) ValueIdx.ix0
abbrev key1 : BitVec 32 := V (Proc.devRef .tc main_v10) ValueIdx.ix0
abbrev key2 : BitVec 32 := V (Proc.devRef .tc main_call0_v1) ValueIdx.ix0

abbrev g1 := grpA 1#32 (key1 V) (key2 V) (V (Proc.devRef .tc main_call0_v6) i) (V (Proc.devRef .tc main_call0_v5) i)
theorem g1_x1 : after (win d 36 43) V (Proc.devRef .tc main_call0_v39) i = (g1 V i).2 := by
  after_reads_at
  rfl
theorem g1_x0 : after (win d 36 43) V (Proc.devRef .tc main_call0_v40) i = IntOp.addi (g1 V i).1 (g1 V i).2 := by
  after_reads_at
  rfl

abbrev g2 := grpB 2#32 (key2 V) (key0 V) (V (Proc.devRef .tc main_call0_v40) i) (V (Proc.devRef .tc main_call0_v39) i)
theorem g2_x1 : after (win d 79 43) V (Proc.devRef .tc main_call0_v73) i = (g2 V i).2 := by
  after_reads_at
  rfl
theorem g2_x0 : after (win d 79 43) V (Proc.devRef .tc main_call0_v74) i = IntOp.addi (g2 V i).1 (g2 V i).2 := by
  after_reads_at
  rfl

abbrev g3 := grpA 3#32 (key0 V) (key1 V) (V (Proc.devRef .tc main_call0_v74) i) (V (Proc.devRef .tc main_call0_v73) i)
theorem g3_x1 : after (win d 122 43) V (Proc.devRef .tc main_call0_v107) i = (g3 V i).2 := by
  after_reads_at
  rfl
theorem g3_x0 : after (win d 122 43) V (Proc.devRef .tc main_call0_v108) i = IntOp.addi (g3 V i).1 (g3 V i).2 := by
  after_reads_at
  rfl

abbrev g4 := grpB 4#32 (key1 V) (key2 V) (V (Proc.devRef .tc main_call0_v108) i) (V (Proc.devRef .tc main_call0_v107) i)
theorem g4_x1 : after (win d 165 43) V (Proc.devRef .tc main_call0_v141) i = (g4 V i).2 := by
  after_reads_at
  rfl
theorem g4_x0 : after (win d 165 43) V (Proc.devRef .tc main_call0_v142) i = IntOp.addi (g4 V i).1 (g4 V i).2 := by
  after_reads_at
  rfl

abbrev g5 := grpA 5#32 (key2 V) (key0 V) (V (Proc.devRef .tc main_call0_v142) i) (V (Proc.devRef .tc main_call0_v141) i)
theorem g5_hash : after (win d 208 43) V (Proc.devRef .tc main_v23) i = IntOp.xori (g5 V i).1 (g5 V i).2 := by
  after_reads_at
  rfl
theorem g5_arg : after (win d 208 43) V (Proc.devRef .tc main_arg0) = V (Proc.devRef .tc main_arg0) := by
  after_reads_simp

end Words

end Cert.Proof.Ref
end
-- ==== Proof.RefValue.lean ====
/-
  The windows of the reference put together: at every element the reference's hash is the kernel's hash of the
  seeded flat index, and its result is the arg-max of the noisy logits.
-/
module

public import proofs.«01_k».proof.Proof.RefStart
public import proofs.«01_k».proof.Proof.RefHash
public import Idealize.ShloMosaic.Lib.KernelVsHost

@[expose] public section
set_option maxRecDepth 16384
noncomputable section

namespace Cert.Proof.Ref

open Cert.ReferenceIdeal Cert.ReferenceIdeal.Gen
open Idealize.ShloMosaic Idealize.SL.Sem Idealize.ShloMosaic.StableHlo

variable {F : FTy → Type} [FloatOps F]

/-! ## The hash, word for word -/

theorem rotH_eq (x a b : BitVec 32) : rotH x a b = Trip.rotW x a b := by
  unfold rotH Trip.rotW
  rw [shli_unit .host .vector, shrui_unit .host .vector]

/-- The five groups from a seeded word on. -/
def hashR (f : BitVec 32) : BitVec 32 :=
  have p := grpA 1#32 42#32 466689008#32 f f
  have p := grpB 2#32 466689008#32 0#32 (IntOp.addi p.1 p.2) p.2
  have p := grpA 3#32 0#32 42#32 (IntOp.addi p.1 p.2) p.2
  have p := grpB 4#32 42#32 466689008#32 (IntOp.addi p.1 p.2) p.2
  have p := grpA 5#32 466689008#32 0#32 (IntOp.addi p.1 p.2) p.2
  IntOp.xori p.1 p.2

/-- Two words added one after the other are their sum added. -/
theorem add_two (x a b : BitVec 32) : IntOp.addi (IntOp.addi x a) b = IntOp.addi x (a + b) := by
  unfold IntOp.addi
  rw [BitVec.add_assoc]

theorem xor_swap (a b : BitVec 32) : IntOp.xori a b = IntOp.xori b a := BitVec.xor_comm a b

/-- A group, its last three additions taken together and its words in the kernel's order. -/
theorem grp_eq (a₁ b₁ a₂ b₂ a₃ b₃ a₄ b₄ kc ka kb x0 x1 : BitVec 32) :
    grp a₁ b₁ a₂ b₂ a₃ b₃ a₄ b₄ kc ka kb x0 x1 =
      (have x1 := IntOp.xori (Trip.rotW x1 a₁ b₁) x0
       have x0 := IntOp.addi x0 x1
       have x1 := IntOp.xori (Trip.rotW x1 a₂ b₂) x0
       have x0 := IntOp.addi x0 x1
       have x1 := IntOp.xori (Trip.rotW x1 a₃ b₃) x0
       have x0 := IntOp.addi x0 x1
       have x1 := IntOp.xori (Trip.rotW x1 a₄ b₄) x0
       have x0 := IntOp.addi x0 ka
       have x1 := IntOp.addi x1 (kb + kc)
       (x0, x1)) := by
  unfold grp
  simp only [rotH_eq, xor_swap x0, xor_swap (IntOp.addi _ _), add_two]

theorem hashR_eq (f : BitVec 32) : hashR f = Trip.hashW f := by
  unfold hashR
  simp only [grp_eq]
  rfl

/-! ## The windows one after the other -/

section Chain
variable (d : Dev nD) (V : Valuation τ sig (Elt F)) (i : S128x100000.Idx)

/-- The contents after the first `n` operations. -/
abbrev at' (n : ℕ) : Valuation τ sig (Elt F) := upto (mainOps (F := F) d).1 V n

theorem hash_at : at' d V 251 (Proc.devRef .tc main_v23) i = Trip.hashW (seeded i) := by
  rw [← hashR_eq]
  have e1 : at' d V 79 = after (win d 36 43) (at' d V 36) := upto_add _ _ 36 43
  have e2 : at' d V 122 = after (win d 79 43) (at' d V 79) := upto_add _ _ 79 43
  have e3 : at' d V 165 = after (win d 122 43) (at' d V 122) := upto_add _ _ 122 43
  have e4 : at' d V 208 = after (win d 165 43) (at' d V 165) := upto_add _ _ 165 43
  have e5 : at' d V 251 = after (win d 208 43) (at' d V 208) := upto_add _ _ 208 43
  have s0 : key0 (at' d V 36) = 0#32 := start_key0 d V
  have s1 : key1 (at' d V 36) = 42#32 := start_key1 d V
  have s2 : key2 (at' d V 36) = 466689008#32 := start_key2 d V
  have x0 : at' d V 36 (Proc.devRef .tc main_call0_v6) i = seeded i := start_x0 d V i
  have x1 : at' d V 36 (Proc.devRef .tc main_call0_v5) i = seeded i := start_x1 d V i
  generalize at' d V 36 = W0 at *
  have K1 := keys1 d W0
  have p1 := g1_x1 d W0 i
  have q1 := g1_x0 d W0 i
  rw [← e1] at K1 p1 q1
  generalize at' d V 79 = W1 at *
  have K2 := keys2 d W1
  have p2 := g2_x1 d W1 i
  have q2 := g2_x0 d W1 i
  rw [← e2] at K2 p2 q2
  generalize at' d V 122 = W2 at *
  have K3 := keys3 d W2
  have p3 := g3_x1 d W2 i
  have q3 := g3_x0 d W2 i
  rw [← e3] at K3 p3 q3
  generalize at' d V 165 = W3 at *
  have K4 := keys4 d W3
  have p4 := g4_x1 d W3 i
  have q4 := g4_x0 d W3 i
  rw [← e4] at K4 p4 q4
  generalize at' d V 208 = W4 at *
  have p5 := g5_hash d W4 i
  rw [← e5] at p5
  rw [p5]
  simp only [g5, g4, g3, g2, g1, key0, key1, key2, K4.k0, K4.k1, K4.k2, K3.k0, K3.k1, K3.k2, K2.k0, K2.k1, K2.k2, K1.k0, K1.k1, K1.k2] at *
  rw [q4, p4, q3, p3, q2, p2, q1, p1, x0, x1, s0, s1, s2]
  rfl

theorem arg_at : at' d V 251 (Proc.devRef .tc main_arg0) = V (Proc.devRef .tc main_arg0) := by
  have e1 : at' d V 79 = after (win d 36 43) (at' d V 36) := upto_add _ _ 36 43
  have e2 : at' d V 122 = after (win d 79 43) (at' d V 79) := upto_add _ _ 79 43
  have e3 : at' d V 165 = after (win d 122 43) (at' d V 122) := upto_add _ _ 122 43
  have e4 : at' d V 208 = after (win d 165 43) (at' d V 165) := upto_add _ _ 165 43
  have e5 : at' d V 251 = after (win d 208 43) (at' d V 208) := upto_add _ _ 208 43
  rw [e5, g5_arg, e4, (keys4 d _).x, e3, (keys3 d _).x, e2, (keys2 d _).x, e1, (keys1 d _).x]
  exact start_arg d V

end Chain

/-! ## The last operations -/

/-- The reference's noisy logit of one element: the logit `x` and its hash `h`. -/
def noisyR (x : F .f32) (h : BitVec 32) : F .f32 :=
  FloatOps.addf (FloatOps.hostNegf (FloatOps.hostUnary .log (FloatOps.hostNegf (FloatOps.hostUnary .log
    (FloatOps.maximumf (FloatOps.ofBits .f32 0x00800000#32)
      (FloatOps.subf (FloatOps.ofBits .f32 (IntOp.ori (IntOp.shrui .host h 9#32) 1065353216#32)) (FloatOps.ofBits .f32 0x3F800000#32))))))) x

/-- The result, from the hash and the logits. -/
theorem tail_at (d : Dev nD) (V : Valuation τ sig (Elt F)) (j : S128.Idx) :
    after ((mainOps (F := F) d).1.drop 251) V (Proc.devRef .tc main_v38) j
      = (Host.argReduce reducer_argmax_f32_i32 (fun i => noisyR (V (Proc.devRef .tc main_arg0) i) (V (Proc.devRef .tc main_v23) i))
          (iotaInDim S128x100000 32 1) (constant S_ .f32 0xFF800000#32) (constantI S_ 32 0#32) reducesTo_S128x100000_S128_d1 h_S_ j).2 := by
  after_reads_at
  rfl

/-- The result of the whole program. -/
theorem result_at (d : Dev nD) (V : Valuation τ sig (Elt F)) (j : S128.Idx) :
    after (mainOps (F := F) d).1 V (Proc.devRef .tc main_v38) j
      = (Host.argReduce reducer_argmax_f32_i32 (fun i => noisyR (V (Proc.devRef .tc main_arg0) i) (Trip.hashW (seeded i)))
          (iotaInDim S128x100000 32 1) (constant S_ .f32 0xFF800000#32) (constantI S_ 32 0#32) reducesTo_S128x100000_S128_d1 h_S_ j).2 := by
  have e : after (mainOps (F := F) d).1 V = after ((mainOps (F := F) d).1.drop 251) (at' d V 251) := by
    unfold at' upto
    rw [← StableHlo.after_append, List.take_append_drop]
  rw [e, tail_at, arg_at]
  exact congrArg (fun g : FVec F S128x100000 .f32 => (Host.argReduce reducer_argmax_f32_i32 g (iotaInDim S128x100000 32 1)
      (constant S_ .f32 0xFF800000#32) (constantI S_ 32 0#32) reducesTo_S128x100000_S128_d1 h_S_ j).2)
    (funext fun i => congrArg (noisyR (V (Proc.devRef .tc main_arg0) i)) (hash_at d V i))

end Cert.Proof.Ref
end
-- ==== Proof.Noise.lean ====
/-
  The noisy logit over the extended reals: the kernel's and the reference's are one number, and a logit above −∞
  has a noisy logit above −∞.
-/
module

public import proofs.«01_k».proof.Proof.RefValue
public import Idealize.ShloMosaic.PureOps.Ideal.Laws

@[expose] public section
noncomputable section

namespace Cert.Proof.Value

open Idealize.ShloMosaic

/-- The word of −∞. -/
theorem ninf_eq : FloatOps.ofBits (F := Ideal) .f32 0xFF800000#32 = (⊥ : EReal) := by
  show Ideal.ofBits .f32 0xFF800000#32 = ⊥
  simp [Ideal.ofBits, Ideal.ieee]

/-- The least positive normal number is positive. -/
theorem tiny_pos : (0 : EReal) < Ideal.ofBits .f32 0x00800000#32 := by
  simp [Ideal.ofBits, Ideal.ieee, -EReal.coe_mul]

/-- The kernel's noisy logit is the reference's. -/
theorem noisy_eq (x : Ideal .f32) (w : BitVec 32) : Ref.noisyR (F := Ideal) x (Trip.hashW w) = Trip.noisyW (F := Ideal) x w := by
  unfold Ref.noisyR Trip.noisyW
  rw [shrui_unit .host .vector]
  generalize Trip.hashW w = h
  generalize IntOp.ori (IntOp.shrui .vector h 9#32) 1065353216#32 = b
  show -(Ideal.log (-(Ideal.log (max (Ideal.ofBits .f32 0x00800000#32) (Ideal.ofBits .f32 b - Ideal.ofBits .f32 0x3F800000#32))))) + x
    = x - Ideal.log (Ideal.ofBits .f32 0x00000000#32
        - Ideal.log (max (Ideal.ofBits .f32 b - Ideal.ofBits .f32 0x3F800000#32) (Ideal.ofBits .f32 0x00800000#32)))
  rw [Ideal.ofBits_zero_f32, zero_sub, max_comm, add_comm, ← sub_eq_add_neg]

/-- The logarithm of a real number. -/
theorem log_coe (r : ℝ) : Ideal.log (r : EReal) = if r ≤ 0 then ⊥ else (Real.log r : EReal) := rfl

/-- The logarithm is −∞ nowhere above zero. -/
theorem log_ne_bot (u : EReal) (h : 0 < u) : Ideal.log u ≠ ⊥ := by
  induction u with
  | bot => exact absurd h (by simp)
  | top => exact top_ne_bot
  | coe r =>
    have hr : 0 < r := by exact_mod_cast h
    rw [log_coe, if_neg (not_le.mpr hr)]
    exact EReal.coe_ne_bot _

/-- The logarithm is +∞ only there. -/
theorem log_ne_top (u : EReal) (h : u ≠ ⊤) : Ideal.log u ≠ ⊤ := by
  induction u with
  | bot => exact bot_ne_top
  | top => exact absurd rfl h
  | coe r =>
    rw [log_coe]
    split
    · exact bot_ne_top
    · exact EReal.coe_ne_top _

/-- A logit above −∞ stays above it when the noise is added. -/
theorem noisy_bot_lt (x : Ideal .f32) (w : BitVec 32) (hx : (⊥ : EReal) < x) : (⊥ : EReal) < Trip.noisyW (F := Ideal) x w := by
  unfold Trip.noisyW
  generalize IntOp.ori (IntOp.shrui .vector (Trip.hashW w) 9#32) 1065353216#32 = b
  show (⊥ : EReal) < x - Ideal.log (Ideal.ofBits .f32 0x00000000#32
        - Ideal.log (max (Ideal.ofBits .f32 b - Ideal.ofBits .f32 0x3F800000#32) (Ideal.ofBits .f32 0x00800000#32)))
  rw [Ideal.ofBits_zero_f32, zero_sub]
  have h1 := log_ne_bot (max (Ideal.ofBits .f32 b - Ideal.ofBits .f32 0x3F800000#32) (Ideal.ofBits .f32 0x00800000#32))
    (lt_max_of_lt_right tiny_pos)
  generalize Ideal.log (max (Ideal.ofBits .f32 b - Ideal.ofBits .f32 0x3F800000#32) (Ideal.ofBits .f32 0x00800000#32)) = l at *
  have h2 := log_ne_top (-l) (by simpa using h1)
  generalize Ideal.log (-l) = n at *
  rw [sub_eq_add_neg, bot_lt_iff_ne_bot, Ne, EReal.add_eq_bot_iff]
  rintro (h | h)
  · exact hx.ne' h
  · exact h2 (by simpa using h)

end Cert.Proof.Value
end
-- ==== Proof.Lanes.lean ====
/-
  The kernel's running maximum and running index over the extended reals, lane by lane: after every trip a lane
  holds the greatest noisy logit it has seen and the word of the first column that has it.
-/
module

public import proofs.«01_k».proof.Proof.Blocks
public import proofs.«01_k».proof.Proof.Noise

@[expose] public section
noncomputable section

namespace Cert.Proof.Value

open Cert.KernelIdeal Cert.KernelIdeal.Gen Cert.Proof.Trip
open Idealize.ShloMosaic Idealize.ShloMosaic.TcCoe

/-- The noisy logit of an element of the array. -/
def val (X : S128x100000.Idx → EReal) (i : S128x100000.Idx) : EReal :=
  noisyW (F := Ideal) (X i) (wordOf (i 0).val (i 1).val)

/-- What lane `l` of row `r` holds after `p` trips: the maximum `M` and the word `I`. -/
structure Lane (X : S128x100000.Idx → EReal) (r : Fin 128) (l : Fin 2048) (p : ℕ) (M : EReal) (I : BitVec 32) : Prop where
  le : ∀ k < p, val X (elt r l k) ≤ M
  first : M = ⊥ ∨ ∃ k < p, M = val X (elt r l k) ∧ I = wordOf r.val (colOf k l.val) ∧ ∀ k' < k, val X (elt r l k') < M

/-- Before the first trip. -/
theorem Lane.zero (X : S128x100000.Idx → EReal) (r : Fin 128) (l : Fin 2048) (I : BitVec 32) : Lane X r l 0 ⊥ I :=
  ⟨fun k hk => absurd hk (Nat.not_lt_zero k), Or.inl rfl⟩

/-- One trip. -/
theorem Lane.succ {X : S128x100000.Idx → EReal} {r : Fin 128} {l : Fin 2048} {p : ℕ} {M : EReal} {I : BitVec 32} (h : Lane X r l p M I) :
    Lane X r l (p + 1) (if M < val X (elt r l p) then val X (elt r l p) else M)
      (if M < val X (elt r l p) then wordOf r.val (colOf p l.val) else I) := by
  by_cases c : M < val X (elt r l p)
  · rw [if_pos c, if_pos c]
    refine ⟨fun k hk => ?_, Or.inr ⟨p, by omega, rfl, rfl, fun k' hk' => (h.le k' hk').trans_lt c⟩⟩
    rcases Nat.lt_succ_iff_lt_or_eq.mp hk with hk | rfl
    · exact (h.le k hk).trans c.le
    · exact le_refl _
  · rw [if_neg c, if_neg c]
    refine ⟨fun k hk => ?_, ?_⟩
    · rcases Nat.lt_succ_iff_lt_or_eq.mp hk with hk | rfl
      · exact h.le k hk
      · exact not_lt.mp c
    · rcases h.first with h | ⟨k, hk, h⟩
      · exact Or.inl h
      · exact Or.inr ⟨k, by omega, h⟩

/-- The comparison and the choice of one trip, read over the extended reals. -/
theorem pick_eq {α : Type} (a b : EReal) (x y : α) :
    Scalar.select (FloatOps.cmpf (F := Ideal) (φ := .f32) .ogt a b) x y = if b < a then x else y := by
  show Scalar.select (BitVec.ofBool (decide (b < a))) x y = _
  by_cases c : b < a <;> simp [c, Scalar.select]

section Run
variable (c : Dev nD) (XA : Buf (Elt Ideal) (aM.view.loc (c : Thread nD τ))) (XT : Buf (Elt Ideal) (tM.view.loc (c : Thread nD τ)))

/-- Every lane before trip `p`. -/
theorem lane_at (hT : ∀ (r : Fin 128) (l : Fin 2048), XT (ValueIdx.ix2 r l) = XA (elt r l 48)) (r : Fin 128) (l : Fin 2048) :
    ∀ p ≤ 49, Lane XA r l p ((accAt (F := Ideal) c XA XT p).1 (ValueIdx.ix2 r l)) ((accAt (F := Ideal) c XA XT p).2 (ValueIdx.ix2 r l)) := by
  intro p
  induction p with
  | zero =>
    intro _
    have e : (accAt (F := Ideal) c XA XT 0).1 (ValueIdx.ix2 r l) = (⊥ : EReal) := by
      rw [accAt_zero]
      unfold k0_pay709
      pointwise
      exact ninf_eq
    rw [e]
    exact Lane.zero _ _ _ _
  | succ p ih =>
    intro hp
    have hk : p < k0_t1_loop.trips := by rw [trips_eq]; omega
    have h := (ih (by omega)).succ
    have e := accAt_succ (F := Ideal) c XA XT ⟨p, hk⟩
    dsimp only at e
    rw [e]
    generalize accAt (F := Ideal) c XA XT p = A at h ⊢
    dsimp only
    unfold newMax newIdx
    rw [word_at, block_at c XA XT hT p (by omega) r l]
    exact (congrArg₂ (Lane XA r l (p + 1)) (pick_eq _ _ _ _) (pick_eq _ _ _ _)).mpr h

end Run

end Cert.Proof.Value
end
-- ==== Proof.LastStep.lean ====
/-
  The kernel's last step over the extended reals: of the lanes that hold the row's greatest value, the least column.
-/
module

public import proofs.«01_k».proof.Proof.Lanes

@[expose] public section
set_option maxRecDepth 16384
noncomputable section

namespace Cert.Proof.Value

open Cert.KernelIdeal Cert.KernelIdeal.Gen Cert.Proof.Trip
open Idealize.ShloMosaic Idealize.ShloMosaic.TcCoe

/-- The fold of an operation that takes the better of its two operands is the best of all of them. -/
theorem fold_pick {α ι : Type} (op : α → α → α) [Std.Commutative op] [Std.Associative op] (R : α → α → Prop)
    (hr : ∀ a, R a a) (ht : ∀ a b c, R a b → R b c → R a c)
    (hop : ∀ a b, (op a b = a ∨ op a b = b) ∧ R (op a b) a ∧ R (op a b) b) (S : Finset ι) (z : α) (f : ι → α) :
    (S.fold op z f = z ∨ ∃ i ∈ S, S.fold op z f = f i) ∧ ∀ i ∈ S, R (S.fold op z f) (f i) := by
  induction S using Finset.cons_induction with
  | empty => simp
  | cons a S ha ih =>
    rw [Finset.fold_cons]
    obtain ⟨hm, hS⟩ := ih
    obtain ⟨h1, h2, h3⟩ := hop (f a) (S.fold op z f)
    refine ⟨?_, ?_⟩
    · rcases h1 with h1 | h1
      · exact Or.inr ⟨a, Finset.mem_cons_self _ _, h1⟩
      · rcases hm with hm | ⟨i, hi, hm⟩
        · exact Or.inl (h1.trans hm)
        · exact Or.inr ⟨i, Finset.mem_cons_of_mem hi, h1.trans hm⟩
    · intro i hi
      rcases Finset.mem_cons.mp hi with rfl | hi
      · exact h2
      · exact ht _ _ _ h3 (hS i hi)

/-- The rows of the lanes. -/
theorem drop_iff (i : S128x2048.Idx) (r : Fin 128) :
    reduces_S128x2048_S128.drop i = ValueIdx.ix1 r ↔ ∃ l : Fin 2048, i = ValueIdx.ix2 r l := by
  constructor
  · intro h
    refine ⟨i 1, funext fun b => ?_⟩
    fin_cases b
    · refine Fin.ext ?_
      have e := Shape.Reduces.drop_apply_val_of_eq reduces_S128x2048_S128 i 0 0
      rw [h] at e
      exact e.symm
    · rfl
  · rintro ⟨l, rfl⟩
    funext b
    fin_cases b
    exact Fin.ext (Shape.Reduces.drop_apply_val_of_eq reduces_S128x2048_S128 (ValueIdx.ix2 r l) 0 0)

/-- The greatest value of a row's lanes. -/
def rowMax (M : S128x2048.Idx → Ideal .f32) (r : Fin 128) : EReal :=
  multiReduction (F := Ideal) .maximumf [1] S128 M 0xFF800000#32 reduces_S128x2048_S128 (.inl rfl) rfl (ValueIdx.ix1 r)

theorem rowMax_spec (M : S128x2048.Idx → Ideal .f32) (r : Fin 128) :
    (rowMax M r = ⊥ ∨ ∃ l : Fin 2048, rowMax M r = M (ValueIdx.ix2 r l)) ∧ ∀ l : Fin 2048, (M (ValueIdx.ix2 r l) : EReal) ≤ rowMax M r := by
  have e : rowMax M r = (Finset.univ.filter fun i => reduces_S128x2048_S128.drop i = ValueIdx.ix1 r).fold
      (FloatOps.maximumf (F := Ideal) (φ := .f32)) (FloatOps.ofBits .f32 0xFF800000#32) M :=
    multiReduction_maximumf_eq_fold (F := Ideal) _ _ _ _ _ _
  rw [e]
  obtain ⟨h1, h2⟩ := fold_pick (FloatOps.maximumf (F := Ideal) (φ := .f32)) (fun a b : EReal => b ≤ a) (fun a => le_refl a)
    (fun a b c h h' => h'.trans h) (fun a b => ⟨max_choice a b, le_max_left a b, le_max_right a b⟩)
    (Finset.univ.filter fun i => reduces_S128x2048_S128.drop i = ValueIdx.ix1 r) (FloatOps.ofBits .f32 0xFF800000#32) M
  refine ⟨?_, fun l => h2 _ (Finset.mem_filter.mpr ⟨Finset.mem_univ _, (drop_iff _ r).mpr ⟨l, rfl⟩⟩)⟩
  rcases h1 with h1 | ⟨i, hi, h1⟩
  · exact Or.inl (h1.trans ninf_eq)
  · obtain ⟨l, rfl⟩ := (drop_iff _ r).mp (Finset.mem_filter.mp hi).2
    exact Or.inr ⟨l, h1⟩

/-- A lane's candidate: its column where it holds the greatest value, and no column otherwise. -/
def cand (M : S128x2048.Idx → Ideal .f32) (I : S128x2048.Idx → BitVec 32) (i : S128x2048.Idx) : BitVec 32 :=
  Scalar.select (FloatOps.cmpf (F := Ideal) (φ := .f32) .oeq (M i) (rowMax M (i 0)))
    (IntOp.subi (IntOp.subi (I i) 42#32) (IntOp.muli (BitVec.ofNat 32 (i 0).val) 100000#32)) 2147483647#32

theorem pay1_at (M : S128x2048.Idx → Ideal .f32) (I : S128x2048.Idx → BitVec 32) (r : Fin 128) :
    k0_pay1 (F := Ideal) M I (ValueIdx.ix2 r 0)
      = multiReductionI .minsi [1] S128 (cand M I) 2147483647#32 reduces_S128x2048_S128 rfl (ValueIdx.ix1 r) := by
  have e : ∀ src : S128x2048.Idx → BitVec 32, src = cand M I →
      shapeCast S128x1 (multiReductionI .minsi [1] S128 src 2147483647#32 reduces_S128x2048_S128 rfl) shapeCasts_S128_S128x1 (ValueIdx.ix2 r 0)
        = multiReductionI .minsi [1] S128 (cand M I) 2147483647#32 reduces_S128x2048_S128 rfl (ValueIdx.ix1 r) := by
    rintro src rfl
    generalize multiReductionI .minsi [1] S128 (cand M I) 2147483647#32 reduces_S128x2048_S128 rfl = v
    pointwise
    rfl
  unfold k0_pay1
  refine e _ (funext fun i => ?_)
  unfold cand rowMax
  generalize multiReduction (F := Ideal) .maximumf [1] S128 M 0xFF800000#32 reduces_S128x2048_S128 (.inl rfl) rfl = v
  idx_vars i
  pointwise
  rfl

theorem toInt_le_minsi (a b : BitVec 32) : (IntOp.minsi a b = a ∨ IntOp.minsi a b = b) ∧ (IntOp.minsi a b).toInt ≤ a.toInt ∧ (IntOp.minsi a b).toInt ≤ b.toInt := by
  unfold IntOp.minsi
  split
  all_goals rename_i h
  all_goals simp [BitVec.slt, BitVec.sle] at h
  all_goals simp
  all_goals omega

theorem rowMin_spec (f : S128x2048.Idx → BitVec 32) (r : Fin 128) (R : BitVec 32)
    (hR : R = multiReductionI .minsi [1] S128 f 2147483647#32 reduces_S128x2048_S128 rfl (ValueIdx.ix1 r)) :
    (R = 2147483647#32 ∨ ∃ l : Fin 2048, R = f (ValueIdx.ix2 r l)) ∧ ∀ l : Fin 2048, R.toInt ≤ (f (ValueIdx.ix2 r l)).toInt := by
  have e : R = (Finset.univ.filter fun i => reduces_S128x2048_S128.drop i = ValueIdx.ix1 r).fold IKind.minsi.op 2147483647#32 f :=
    hR.trans (multiReductionI_eq_fold _ _ _ _ _ _)
  rw [e]
  clear hR e
  obtain ⟨h1, h2⟩ := fold_pick IKind.minsi.op (fun a b : BitVec 32 => a.toInt ≤ b.toInt) (fun a => le_refl _)
    (fun a b c h h' => h.trans h') toInt_le_minsi
    (Finset.univ.filter fun i => reduces_S128x2048_S128.drop i = ValueIdx.ix1 r) 2147483647#32 f
  refine ⟨?_, fun l => h2 _ (Finset.mem_filter.mpr ⟨Finset.mem_univ _, (drop_iff _ r).mpr ⟨l, rfl⟩⟩)⟩
  rcases h1 with h1 | ⟨i, hi, h1⟩
  · exact Or.inl h1
  · obtain ⟨l, rfl⟩ := (drop_iff _ r).mp (Finset.mem_filter.mp hi).2
    exact Or.inr ⟨l, h1⟩

/-- The column read back from a lane's word. -/
theorem col_back (r : Fin 128) (n : ℕ) :
    IntOp.subi (IntOp.subi (wordOf r.val n) 42#32) (IntOp.muli (BitVec.ofNat 32 r.val) 100000#32) = BitVec.ofNat 32 n := by
  have e : wordOf r.val n = BitVec.ofNat 32 r.val * 100000#32 + BitVec.ofNat 32 n + 42#32 := by
    unfold wordOf
    rw [BitVec.ofNat_add, BitVec.ofNat_add, BitVec.ofNat_mul, BitVec.mul_comm]
  rw [e]
  unfold IntOp.subi IntOp.muli
  rw [BitVec.add_sub_cancel, BitVec.add_comm, BitVec.add_sub_cancel]

/-- The column's word, read as a signed number. -/
theorem colw_toInt (n : ℕ) (h : n < 100000) : (BitVec.ofNat 32 n).toInt = n := by
  rw [BitVec.toInt_eq_toNat_cond, BitVec.toNat_ofNat]
  omega

/-- The kernel's row: the least column of the row's greatest value. -/
theorem kernel_row (X : S128x100000.Idx → EReal) (M : S128x2048.Idx → Ideal .f32) (I : S128x2048.Idx → BitVec 32) (r : Fin 128)
    (hl : ∀ l : Fin 2048, Lane X r l 49 (M (ValueIdx.ix2 r l)) (I (ValueIdx.ix2 r l)))
    (n : Fin 100000) (hpos : ⊥ < val X (ValueIdx.ix2 r n))
    (hn : ∀ n' : Fin 100000, val X (ValueIdx.ix2 r n') < val X (ValueIdx.ix2 r n)
      ∨ (val X (ValueIdx.ix2 r n') = val X (ValueIdx.ix2 r n) ∧ n ≤ n')) :
    k0_pay1 (F := Ideal) M I (ValueIdx.ix2 r 0) = BitVec.ofNat 32 n.val := by
  have hle : ∀ n' : Fin 100000, val X (ValueIdx.ix2 r n') ≤ val X (ValueIdx.ix2 r n) := fun n' =>
    (hn n').elim le_of_lt fun h => h.1.le
  obtain ⟨k₀, hk₀, l₀', hl₀', e₀⟩ := colOf_surj n.val n.isLt
  obtain ⟨l₀, rfl⟩ : ∃ l : Fin 2048, l.val = l₀' := ⟨⟨l₀', hl₀'⟩, rfl⟩
  have en : elt r l₀ k₀ = ValueIdx.ix2 r n := by
    unfold elt
    congr 1
    exact Fin.ext e₀
  -- the greatest value
  obtain ⟨hm, hM⟩ := rowMax_spec M r
  have top : rowMax M r = val X (ValueIdx.ix2 r n) := by
    apply le_antisymm
    · rcases hm with hm | ⟨l, hm⟩
      · rw [hm]; exact bot_le
      · rw [hm]
        rcases (hl l).first with h | ⟨k, _, h, _⟩
        · rw [h]; exact bot_le
        · rw [h]; exact hle _
    · rw [← en]
      exact ((hl l₀).le k₀ hk₀).trans (hM l₀)
  -- a lane that holds it
  have held : ∀ l : Fin 2048, (M (ValueIdx.ix2 r l) : EReal) = rowMax M r →
      ∃ k < 49, cand M I (ValueIdx.ix2 r l) = BitVec.ofNat 32 (colOf k l.val) ∧ n.val ≤ colOf k l.val
        ∧ ∀ k' < k, val X (elt r l k') < rowMax M r := by
    intro l h
    have hf := (hl l).first.resolve_left (fun hb => by
      rw [h, top] at hb
      exact hpos.ne' hb)
    obtain ⟨k, hk, h1, h2, h3⟩ := hf
    refine ⟨k, hk, ?_, ?_, fun k' hk' => h ▸ h3 k' hk'⟩
    · unfold cand
      have hc : FloatOps.cmpf (F := Ideal) (φ := .f32) .oeq (M (ValueIdx.ix2 r l)) (rowMax M r) = 1#1 := by
        show BitVec.ofBool (decide ((M (ValueIdx.ix2 r l) : EReal) = rowMax M r)) = 1#1
        simp [h]
      rw [show (ValueIdx.ix2 r l : S128x2048.Idx) 0 = r from rfl, hc, h2, col_back]
      rfl
    · rcases hn ⟨colOf k l.val, colOf_lt k l.val l.isLt⟩ with h' | ⟨_, h'⟩
      · exact absurd (h1.symm.trans (h.trans top)) h'.ne
      · exact Fin.le_def.mp h'
  -- a lane that does not
  have other : ∀ l : Fin 2048, (M (ValueIdx.ix2 r l) : EReal) ≠ rowMax M r → cand M I (ValueIdx.ix2 r l) = 2147483647#32 := by
    intro l h
    unfold cand
    have hc : FloatOps.cmpf (F := Ideal) (φ := .f32) .oeq (M (ValueIdx.ix2 r l)) (rowMax M r) = 0#1 := by
      show BitVec.ofBool (decide ((M (ValueIdx.ix2 r l) : EReal) = rowMax M r)) = 0#1
      simp [h]
    rw [show (ValueIdx.ix2 r l : S128x2048.Idx) 0 = r from rfl, hc]
    rfl
  have big : (2147483647#32 : BitVec 32).toInt = 2147483647 := by decide
  have hn' := n.isLt
  obtain ⟨hR, hmin⟩ := rowMin_spec (cand M I) r _ (pay1_at M I r)
  generalize k0_pay1 (F := Ideal) M I (ValueIdx.ix2 r 0) = R at hR hmin ⊢
  have hup : R.toInt ≤ n.val := by
    have h₀ : (M (ValueIdx.ix2 r l₀) : EReal) = rowMax M r := by
      apply le_antisymm (hM l₀)
      rw [top, ← en]
      exact (hl l₀).le k₀ hk₀
    obtain ⟨k, hk, h1, h2, h3⟩ := held l₀ h₀
    have hkk : k ≤ k₀ := by
      by_contra hc
      have := h3 k₀ (by omega)
      rw [en, top] at this
      exact lt_irrefl _ this
    have hc := colOf_mono l₀.val hkk
    have := hmin l₀
    rw [h1, colw_toInt _ (colOf_lt k l₀.val l₀.isLt)] at this
    omega
  rcases hR with hR | ⟨l, hR⟩
  · rw [hR, big] at hup
    omega
  · by_cases h : (M (ValueIdx.ix2 r l) : EReal) = rowMax M r
    · obtain ⟨k, hk, h1, h2, h3⟩ := held l h
      rw [h1] at hR
      rw [hR, colw_toInt _ (colOf_lt k l.val l.isLt)] at hup
      rw [hR]
      exact congrArg (BitVec.ofNat 32) (by omega)
    · rw [hR, other l h, big] at hup
      omega

end Cert.Proof.Value
end
-- ==== Proof.SomeLogit.lean ====
/-
  The precondition, read row by row: every row of the logits holds a number above −∞.
-/
module

public import proofs.«01_k».proof.Pre_some_logit
public import proofs.«01_k».proof.Proof.LastStep

@[expose] public section
set_option maxRecDepth 16384
noncomputable section

namespace Cert.Proof.Value

open Idealize.ShloMosaic Cert.Pre_some_logit

/-- The shape relations that the precondition states. -/
theorem pre_facts : Cert.Pre_some_logit.Facts where
  reducesTo_S128x100000_S128_d1 := by decide
  h_S_ := by decide
  bcast_S_S128 := by decide
  reducesTo_S128_S_d0 := by decide

/-- An ordered "greater than −∞" that holds. -/
theorem gt_bot {s : Shape} (a b : FVec Ideal s .f32) (i : s.Idx) (hb : b i = (⊥ : EReal)) (h : cmpf (F := Ideal) .ogt a b i = 1#1) :
    (⊥ : EReal) < a i := by
  have e : BitVec.ofBool (decide ((b i : EReal) < a i)) = 1#1 := h
  rw [hb] at e
  by_contra hc
  rw [decide_eq_false hc] at e
  exact absurd e (by decide)

/-- The precondition gives each row a logit above −∞. -/
theorem some_row [Cert.Pre_some_logit.Facts] (x : FVec Ideal S128x100000 .f32) (h : fn (F := Ideal) x = fun _ => 1#1) (r : Fin 128) :
    ∃ n : Fin 100000, (⊥ : EReal) < x (ValueIdx.ix2 r n) := by
  have h0 := congrFun h ValueIdx.ix0
  unfold fn at h0
  dsimp only at h0
  rw [Host.reduce_eq_fold] at h0
  have hand := (fold_pick (IntOp.andi (w := 1)) (fun a b : BitVec 1 => a = 1#1 → b = 1#1) (fun a h => h)
    (fun a b c h h' e => h' (h e)) (by decide)
    (Finset.univ.filter fun i : S128.Idx => Facts.reducesTo_S128_S_d0.drop i = ValueIdx.ix0)
    ((constantI S_ 1 1#1) (Shape.Idx.first Facts.h_S_))
    (cmpf (F := Ideal) .ogt (Host.reduce FloatOps.maximumf x (constant S_ .f32 0xFF800000#32) Facts.reducesTo_S128x100000_S128_d1 Facts.h_S_)
      (broadcastInDim S128 ![] Facts.bcast_S_S128 (constant S_ .f32 0xFF800000#32)))).2
    (ValueIdx.ix1 r) (Finset.mem_filter.mpr ⟨Finset.mem_univ _, funext fun b => b.elim0⟩) h0
  have hgt : (⊥ : EReal) < Host.reduce (FloatOps.maximumf (F := Ideal) (φ := .f32)) x (constant S_ .f32 0xFF800000#32)
      Facts.reducesTo_S128x100000_S128_d1 Facts.h_S_ (ValueIdx.ix1 r) :=
    gt_bot _ _ _ ninf_eq hand
  rw [Host.reduce_eq_fold] at hgt
  rcases (fold_pick (FloatOps.maximumf (F := Ideal) (φ := .f32)) (fun a b : EReal => b ≤ a) (fun a => le_refl a)
    (fun a b c h h' => h'.trans h) (fun a b => ⟨max_choice a b, le_max_left a b, le_max_right a b⟩)
    (Finset.univ.filter fun i : S128x100000.Idx => Facts.reducesTo_S128x100000_S128_d1.drop i = ValueIdx.ix1 r)
    ((constant (F := Ideal) S_ .f32 0xFF800000#32) (Shape.Idx.first Facts.h_S_)) x).1 with e | ⟨i, hi, e⟩
  · rw [e] at hgt
    exact absurd (hgt.trans_eq ninf_eq) (lt_irrefl _)
  · rw [e] at hgt
    have hd := (Finset.mem_filter.mp hi).2
    have h0 : (i 0).val = r.val := by
      rw [← Shape.ReducesTo.drop_apply_val_of_eq Facts.reducesTo_S128x100000_S128_d1 i 0 0, hd]
    have hi' : i = ValueIdx.ix2 r (i 1) := by
      funext b
      fin_cases b
      · exact Fin.ext h0
      · rfl
    exact ⟨i 1, hi' ▸ hgt⟩

end Cert.Proof.Value
end
-- ==== Proof.Argmax.lean ====
/-
  The reference's arg-max over the extended reals: its result is the least column of the row's greatest value.
-/
module

public import proofs.«01_k».proof.Proof.Noise

@[expose] public section
noncomputable section

namespace Cert.Proof.Value

open Idealize.ShloMosaic Cert.ReferenceIdeal Cert.ReferenceIdeal.Gen

/-- A pair is at least as good as another: a greater value, or the same value at an index that is not greater. -/
def Best (p q : EReal × BitVec 32) : Prop := q.1 < p.1 ∨ (q.1 = p.1 ∧ p.2.toInt ≤ q.2.toInt)

theorem Best.refl (p : EReal × BitVec 32) : Best p p := Or.inr ⟨rfl, le_refl _⟩
theorem Best.trans {p q r : EReal × BitVec 32} (h : Best p q) (h' : Best q r) : Best p r := by
  rcases h with h | ⟨h, h₂⟩ <;> rcases h' with h' | ⟨h', h₂'⟩
  · exact Or.inl (h'.trans h)
  · exact Or.inl (h'.trans_lt h)
  · exact Or.inl (h'.trans_eq h)
  · exact Or.inr ⟨h'.trans h, h₂.trans h₂'⟩

/-- The body takes one of its two pairs, the better one. -/
theorem body_best (p q : EReal × BitVec 32) :
    (reducer_argmax_f32_i32 (F := Ideal) p q = p ∨ reducer_argmax_f32_i32 (F := Ideal) p q = q)
      ∧ Best (reducer_argmax_f32_i32 (F := Ideal) p q) p ∧ Best (reducer_argmax_f32_i32 (F := Ideal) p q) q := by
  obtain ⟨x, a⟩ := p
  obtain ⟨y, b⟩ := q
  have e : reducer_argmax_f32_i32 (F := Ideal) (x, a) (y, b)
      = (if y < x then x else y, if y < x ∨ (x = y ∧ a.toInt < b.toInt) then a else b) := by
    unfold reducer_argmax_f32_i32
    have h1 : FloatOps.cmpf (F := Ideal) (φ := .f32) .ogt x y = BitVec.ofBool (decide (y < x)) := rfl
    have h2 : FloatOps.cmpf (F := Ideal) (φ := .f32) .une x x = 0#1 := by
      show BitVec.ofBool (decide (x ≠ x)) = 0#1
      simp
    have h3 : FloatOps.cmpf (F := Ideal) (φ := .f32) .oeq x y = BitVec.ofBool (decide (x = y)) := rfl
    have h4 : IntOp.cmpi .slt a b = BitVec.ofBool (decide (a.toInt < b.toInt)) := by
      simp [IntOp.cmpi, BitVec.slt]
    dsimp only
    rw [h1, h2, h3, h4]
    by_cases c1 : y < x
    · simp [c1, c1.ne', Scalar.select, IntOp.ori, IntOp.andi]
    · by_cases c2 : x = y
      · by_cases c3 : a.toInt < b.toInt <;> simp [c1, c2, c3, Scalar.select, IntOp.ori, IntOp.andi]
      · simp [c1, c2, Scalar.select, IntOp.ori, IntOp.andi]
  rw [e]
  unfold Best
  by_cases c1 : y < x
  · simp [c1]
  · by_cases c2 : x = y
    · subst c2
      by_cases c3 : a.toInt < b.toInt
      · simp [c3, c3.le]
      · simp [c3, not_lt.mp c3]
    · have c4 : x < y := lt_of_le_of_ne (not_lt.mp c1) c2
      simp [c1, c2, c4]

/-- The fold of the body over a list takes a pair of the list or the first one, the best of all. -/
theorem fold_best (L : List (EReal × BitVec 32)) : ∀ p : EReal × BitVec 32,
    (L.foldl (reducer_argmax_f32_i32 (F := Ideal)) p = p ∨ L.foldl (reducer_argmax_f32_i32 (F := Ideal)) p ∈ L)
      ∧ Best (L.foldl (reducer_argmax_f32_i32 (F := Ideal)) p) p
      ∧ ∀ q ∈ L, Best (L.foldl (reducer_argmax_f32_i32 (F := Ideal)) p) q := by
  induction L with
  | nil => exact fun p => ⟨Or.inl rfl, Best.refl p, by simp⟩
  | cons a L ih =>
    intro p
    obtain ⟨hm, hp, hL⟩ := ih (reducer_argmax_f32_i32 (F := Ideal) p a)
    obtain ⟨hb, bp, ba⟩ := body_best p a
    simp only [List.foldl_cons]
    refine ⟨?_, hp.trans bp, ?_⟩
    · rcases hm with hm | hm
      · rcases hb with hb | hb
        · exact Or.inl (hm.trans hb)
        · exact Or.inr (by rw [hm, hb]; simp)
      · exact Or.inr (List.mem_cons_of_mem _ hm)
    · intro q hq
      rcases List.mem_cons.mp hq with rfl | hq
      · exact hp.trans ba
      · exact hL q hq

/-- The column of a row, as an index. -/
abbrev at2 (r : Fin 128) (c : Fin 100000) : S128x100000.Idx := ValueIdx.ix2 r c

/-- The column's word, read as a signed number. -/
theorem col_toInt (n : ℕ) (h : n < 100000) : (BitVec.ofNat 32 n).toInt = n := by
  rw [BitVec.toInt_eq_toNat_cond, BitVec.toNat_ofNat]
  omega

/-- Where some value of the row is above −∞ the arg-max is the least column of the greatest value. -/
theorem argmax_row (g : FVec Ideal S128x100000 .f32) (j : S128.Idx) (r : Fin 128) (hr : j = ValueIdx.ix1 r)
    (hsome : ∃ c : Fin 100000, (⊥ : EReal) < g (at2 r c)) :
    ∃ c : Fin 100000, (Host.argReduce reducer_argmax_f32_i32 g (iotaInDim S128x100000 32 1) (constant S_ .f32 0xFF800000#32)
        (constantI S_ 32 0#32) reducesTo_S128x100000_S128_d1 h_S_ j).2 = BitVec.ofNat 32 c.val
      ∧ ∀ c' : Fin 100000, (g (at2 r c') : EReal) < g (at2 r c) ∨ ((g (at2 r c') : EReal) = g (at2 r c) ∧ c ≤ c') := by
  subst hr
  rw [Ideal.argReduce_eq_reduce2, Host.reduce2_eq_foldl_fiber]
  have hfib : ∀ c : Fin 100000, ((g (at2 r c) : EReal), BitVec.ofNat 32 c.val)
      ∈ Host.argReduceFiber g (iotaInDim S128x100000 32 1) reducesTo_S128x100000_S128_d1 (ValueIdx.ix1 r) := by
    intro c
    unfold Host.argReduceFiber
    rw [List.mem_map]
    refine ⟨S128x100000.rowMajor (at2 r c), ?_, ?_⟩
    · rw [List.mem_filter]
      refine ⟨List.mem_finRange _, ?_⟩
      rw [Equiv.symm_apply_apply, decide_eq_true_iff]
      funext b
      fin_cases b
      exact Fin.ext (Shape.ReducesTo.drop_apply_val_of_eq reducesTo_S128x100000_S128_d1 (at2 r c) 0 0)
    · rw [Equiv.symm_apply_apply]
      rfl
  have hof : ∀ q ∈ Host.argReduceFiber g (iotaInDim S128x100000 32 1) reducesTo_S128x100000_S128_d1 (ValueIdx.ix1 r),
      ∃ c : Fin 100000, q = ((g (at2 r c) : EReal), BitVec.ofNat 32 c.val) := by
    intro q hq
    unfold Host.argReduceFiber at hq
    rw [List.mem_map] at hq
    obtain ⟨n, hn, rfl⟩ := hq
    rw [List.mem_filter, decide_eq_true_iff] at hn
    generalize S128x100000.rowMajor.symm n = i at hn ⊢
    have h0 : (i 0).val = r.val := by
      rw [← Shape.ReducesTo.drop_apply_val_of_eq reducesTo_S128x100000_S128_d1 i 0 0, hn.2]
    have hi : i = at2 r (i 1) := by
      funext b
      fin_cases b
      · exact Fin.ext h0
      · rfl
    refine ⟨i 1, ?_⟩
    rw [← hi]
    rfl
  obtain ⟨hm, hp, hL⟩ := fold_best (Host.argReduceFiber g (iotaInDim S128x100000 32 1) reducesTo_S128x100000_S128_d1 (ValueIdx.ix1 r))
    ((constant (F := Ideal) S_ .f32 0xFF800000#32) (Shape.Idx.first h_S_), (constantI S_ 32 0#32) (Shape.Idx.first h_S_))
  generalize List.foldl _ _ _ = p at hm hp hL ⊢
  have hbot : (⊥ : EReal) < p.1 := by
    obtain ⟨c, hc⟩ := hsome
    rcases hL _ (hfib c) with h | ⟨h, -⟩
    · exact hc.trans h
    · exact hc.trans_eq h
  have hmem := hm.resolve_left (fun h => by
    rw [h] at hbot
    exact hbot.ne' ninf_eq)
  obtain ⟨c, hc⟩ := hof _ hmem
  subst hc
  refine ⟨c, rfl, fun c' => ?_⟩
  rcases hL _ (hfib c') with h | ⟨h, h'⟩
  · exact Or.inl h
  · refine Or.inr ⟨h, ?_⟩
    dsimp only at h'
    rw [col_toInt _ c.isLt, col_toInt _ c'.isLt] at h'
    exact Fin.le_def.mpr (by exact_mod_cast h')

end Cert.Proof.Value
end
-- ==== Proof.SameResult.lean ====
/-
  The two results, row by row: where every row holds a logit above −∞ the kernel's column of indices is the
  reference's.
-/
module

public import proofs.«01_k».proof.Proof.Argmax
public import proofs.«01_k».proof.Proof.LastStep

@[expose] public section
set_option maxRecDepth 16384
noncomputable section

namespace Cert.Proof.Value

open Idealize.ShloMosaic Idealize.SL.Sem Idealize.ShloMosaic.StableHlo

/-- The kernel's result. -/
abbrev kernelOut (m : (ℓ : Loc Cert.KernelIdeal.nD Cert.KernelIdeal.τ Cert.KernelIdeal.sig) → Buf (Elt Ideal) ℓ) (c : Dev Cert.KernelIdeal.nD) :
    Cert.KernelIdeal.S128.Idx → BitVec 32 :=
  shapeCast Cert.KernelIdeal.S128 (Trip.outAt m c) Cert.KernelIdeal.Facts₀.shapeCasts_S128x1_S128

/-- The reference's result at a row, from the noisy logits of the kernel's words. -/
theorem reference_row (d : Dev Cert.ReferenceIdeal.nD) (V : Valuation Cert.ReferenceIdeal.τ Cert.ReferenceIdeal.sig (Elt Ideal))
    (X : Cert.KernelIdeal.S128x100000.Idx → EReal) (hX : V (Proc.devRef .tc Cert.ReferenceIdeal.main_arg0) = X) (r : Fin 128)
    (hsome : ∃ n : Fin 100000, (⊥ : EReal) < X (ValueIdx.ix2 r n)) :
    ∃ n : Fin 100000, StableHlo.after (Ref.mainOps (F := Ideal) d).1 V (Proc.devRef .tc Cert.ReferenceIdeal.main_v38) (ValueIdx.ix1 r) = BitVec.ofNat 32 n.val
      ∧ ⊥ < val X (ValueIdx.ix2 r n)
      ∧ ∀ n' : Fin 100000, val X (ValueIdx.ix2 r n') < val X (ValueIdx.ix2 r n)
          ∨ (val X (ValueIdx.ix2 r n') = val X (ValueIdx.ix2 r n) ∧ n ≤ n') := by
  rw [Ref.result_at]
  have eg : (fun i => Ref.noisyR (F := Ideal) (V (Proc.devRef .tc Cert.ReferenceIdeal.main_arg0) i) (Trip.hashW (Ref.seeded i))) = val X := by
    funext i
    rw [noisy_eq, hX]
    rfl
  obtain ⟨n₀, h₀⟩ := hsome
  have hs : (⊥ : EReal) < val X (ValueIdx.ix2 r n₀) := noisy_bot_lt _ _ h₀
  obtain ⟨n, h1, h2⟩ := argmax_row (val X) (ValueIdx.ix1 r) r rfl ⟨n₀, hs⟩
  refine ⟨n, (congrArg (fun g : FVec Ideal Cert.ReferenceIdeal.S128x100000 .f32 => (Host.argReduce Cert.ReferenceIdeal.reducer_argmax_f32_i32 g
      (iotaInDim Cert.ReferenceIdeal.S128x100000 32 1) (constant Cert.ReferenceIdeal.S_ .f32 0xFF800000#32) (constantI Cert.ReferenceIdeal.S_ 32 0#32)
      Cert.ReferenceIdeal.Facts₀.reducesTo_S128x100000_S128_d1 Cert.ReferenceIdeal.Facts₀.h_S_ (ValueIdx.ix1 r)).2) eg).trans h1, ?_, h2⟩
  rcases h2 n₀ with h | ⟨h, -⟩
  · exact hs.trans h
  · exact hs.trans_eq h

/-- The kernel's result at a row. -/
theorem kernel_at (m : (ℓ : Loc Cert.KernelIdeal.nD Cert.KernelIdeal.τ Cert.KernelIdeal.sig) → Buf (Elt Ideal) ℓ) (c : Dev Cert.KernelIdeal.nD) (r : Fin 128)
    (n : Fin 100000) (X : Cert.KernelIdeal.S128x100000.Idx → EReal)
    (hX : m ((c.tc : Thread Cert.KernelIdeal.nD Cert.KernelIdeal.τ).loc Cert.KernelIdeal.main_arg0) = X) (hpos : ⊥ < val X (ValueIdx.ix2 r n))
    (hn : ∀ n' : Fin 100000, val X (ValueIdx.ix2 r n') < val X (ValueIdx.ix2 r n)
      ∨ (val X (ValueIdx.ix2 r n') = val X (ValueIdx.ix2 r n) ∧ n ≤ n')) :
    kernelOut m c (ValueIdx.ix1 r) = BitVec.ofNat 32 n.val := by
  have e : kernelOut m c (ValueIdx.ix1 r) = Trip.outAt m c (ValueIdx.ix2 r 0) := by
    unfold kernelOut
    generalize Trip.outAt m c = v
    pointwise
    rfl
  rw [e]
  unfold Trip.outAt
  have hA : Cert.KernelIdeal.Gen.V m c Cert.KernelIdeal.main_arg0 = X := (Cert.KernelIdeal.Gen.V_main_arg0 m c).trans hX
  have hl := fun (l : Fin 2048) => lane_at c (Cert.KernelIdeal.Gen.V m c Cert.KernelIdeal.main_arg0) (Cert.KernelIdeal.Gen.V m c Cert.KernelIdeal.main_v0)
    (fun r l => Trip.tail_cut m c r l) r l 49 (le_refl _)
  generalize Trip.accAt (F := Ideal) c (Cert.KernelIdeal.Gen.V m c Cert.KernelIdeal.main_arg0) (Cert.KernelIdeal.Gen.V m c Cert.KernelIdeal.main_v0) 49 = A at hl ⊢
  rw [hA] at hl
  exact kernel_row X A.1 A.2 r hl n hpos hn

/-- The two results are equal. -/
theorem results_eq (m : (ℓ : Loc Cert.KernelIdeal.nD Cert.KernelIdeal.τ Cert.KernelIdeal.sig) → Buf (Elt Ideal) ℓ) (c : Dev Cert.KernelIdeal.nD)
    (d : Dev Cert.ReferenceIdeal.nD) (V : Valuation Cert.ReferenceIdeal.τ Cert.ReferenceIdeal.sig (Elt Ideal))
    (X : Cert.KernelIdeal.S128x100000.Idx → EReal)
    (hX : m ((c.tc : Thread Cert.KernelIdeal.nD Cert.KernelIdeal.τ).loc Cert.KernelIdeal.main_arg0) = X)
    (hV : V (Proc.devRef .tc Cert.ReferenceIdeal.main_arg0) = X)
    (hsome : ∀ r : Fin 128, ∃ n : Fin 100000, (⊥ : EReal) < X (ValueIdx.ix2 r n)) :
    StableHlo.after (Ref.mainOps (F := Ideal) d).1 V (Proc.devRef .tc Cert.ReferenceIdeal.main_v38) = kernelOut m c := by
  funext j
  obtain ⟨r, rfl⟩ : ∃ r : Fin 128, j = ValueIdx.ix1 r := ⟨j 0, funext fun b => by fin_cases b; rfl⟩
  obtain ⟨n, h1, h2, h3⟩ := reference_row d V X hV r (hsome r)
  exact h1.trans (kernel_at m c r n X hX h2 h3).symm

end Cert.Proof.Value
end
-- ==== Proof.lean ====
/- The claims, put together from the modules that prove them. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Transfer
public import proofs.«01_k».proof.Proof.KernelRun
public import proofs.«01_k».proof.Proof.RefRun
public import proofs.«01_k».proof.Proof.SomeLogit
public import proofs.«01_k».proof.Proof.SameResult

@[expose] public section

noncomputable section

namespace Cert.Proof

open Idealize.ShloMosaic Idealize.SL.Sem

/-- The kernel at any reading of floats: its argument unchanged, its counters at zero. -/
theorem frame_kernel {F : FTy → Type} [FloatOps F]
    (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩
      (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0) :=
  (θ_run _ _ _).mono (fun _ h => ⟨fun c => (h.1 c).2, h.2⟩) (Trip.run_out m g)

/-- The reference: its argument unchanged, its counters (it has none) at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run _ _ _).mono (fun r h => ⟨fun c => (h c _).trans (Ref.arg_kept m c), sem_eq_zero_of_no_sems (by decide) r.2⟩) (Ref.run_main m g)

/-- The two programs, from the same logits, each row of them holding one above −∞, end with the same indices. -/
theorem same_result :
    Cert.algebraic_KernelIdeal_ReferenceIdeal_pre_some_logit (hKernelIdeal := Cert.KernelIdeal.Gen.facts)
      (hReferenceIdeal := Cert.ReferenceIdeal.Gen.facts) (hPre_some_logit := Value.pre_facts) := by
  intro m g m' g' hpre hargs
  have hsome := fun (c : Dev Cert.KernelIdeal.nD) (r : Fin 128) => @Value.some_row Value.pre_facts _ (hpre c) r
  refine ⟨Value.kernelOut m, (θ_run _ _ _).mono (fun _ h c => h.1 c) (Trip.run_out m g),
    (θ_run _ _ _).mono (fun r h c => ⟨?_, (h c _).trans (Ref.arg_kept m' c)⟩) (Ref.run_main m' g')⟩
  exact (h c _).trans (Value.results_eq m c c _ _ rfl (hargs c) (hsome c))

theorem claim : Cert.Claim := ⟨Cert.Kernel.Gen.facts, Cert.KernelIdeal.Gen.facts, Cert.ReferenceIdeal.Gen.facts, Value.pre_facts,
  fun m g _ => Transfer.run_same _ _ (frame_kernel m g), fun m g _ => frame_kernel m g, fun m g _ => frame_kernel m g,
  fun m g _ => frame_reference m g, fun m g _ => frame_reference m g, trivial, same_result⟩

end Cert.Proof

end
